-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  bcast_S_S256x256 : S_.BroadcastsInDim S256x256 (![] : Fin 0 → Fin S256x256.rank)
  bcast_S_S256 : S_.BroadcastsInDim S256 (![] : Fin 0 → Fin S256.rank)

variable [Facts]

def fn {F : FTy → Type} [FloatOps F] (main_arg0 : FVec F S16384x256 .f32) (main_arg1 : FVec F S16384x256 .f32) (main_arg2 : FVec F S256x256 .f32) (main_arg3 : FVec F S256 .f32) : IVec S16384x256 1 × IVec S16384x256 1 × IVec S256x256 1 × IVec S256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S256x256 .f32 := Host.absf main_arg2
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Kernel.lean ====
abbrev S16384x256 : Shape := ⟨2, ![16384, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x16384x256 : Shape := ⟨3, ![1, 16384, 256]⟩
abbrev S2x16384x256 : Shape := ⟨3, ![2, 16384, 256]⟩
abbrev S512x256 : Shape := ⟨2, ![512, 256]⟩
abbrev S8x128 : Shape := ⟨2, ![8, 128]⟩

abbrev nBuf : Space → Nat
  | .hbm => 20
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .bf16⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .bf16⟩
  | .hbm, ⟨14, _⟩ => ⟨S1x256, .f32⟩
  | .hbm, ⟨15, _⟩ => ⟨S16384x256, .f32⟩
  | .hbm, ⟨16, _⟩ => ⟨S16384x256, .f32⟩
  | .hbm, ⟨17, _⟩ => ⟨S1x16384x256, .f32⟩
  | .hbm, ⟨18, _⟩ => ⟨S1x16384x256, .f32⟩
  | .hbm, ⟨19, _⟩ => ⟨S2x16384x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S8x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9_0 : Ref sig .tc := ⟨.hbm, 15, rfl⟩
abbrev main_call0_v9_1 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x256 : Shape := ⟨2, ![16384, 256]⟩
abbrev S256x256 : Shape := ⟨2, ![256, 256]⟩
abbrev S256 : Shape := ⟨1, ![256]⟩
abbrev S2x16384x256 : Shape := ⟨3, ![2, 16384, 256]⟩
abbrev S1x256 : Shape := ⟨2, ![1, 256]⟩
abbrev S16384 : Shape := ⟨1, ![16384]⟩
abbrev S16384x1 : Shape := ⟨2, ![16384, 1]⟩
abbrev S1x16384x256 : Shape := ⟨3, ![1, 16384, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S2x16384x256, .f32⟩
  | .local _ .vmem, ⟨0, _⟩ => ⟨S16384x256, .f32⟩
  | .local _ .vmem, ⟨1, _⟩ => ⟨S16384x256, .f32⟩
  | .local _ .vmem, ⟨2, _⟩ => ⟨S256x256, .f32⟩
  | .local _ .vmem, ⟨3, _⟩ => ⟨S256, .f32⟩
  | .local _ .vmem, ⟨4, _⟩ => ⟨S2x16384x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v4 : BitVec 32 := Scalar.addi c0_i32 c6_i32
  let c1_i32 : BitVec 32 := 1#32
  ⟨c0_i32, v4, c1_i32⟩
@[reducible] def k0_t2_loop : Scf.Loop 32 :=
  let c0_i32_9 : BitVec 32 := 0#32
  let c8_i32 : BitVec 32 := 8#32
  let v10 : BitVec 32 := Scalar.addi c0_i32_9 c8_i32
  let c1_i32_10 : BitVec 32 := 1#32
  ⟨c0_i32_9, v10, c1_i32_10⟩
@[reducible] def k0_t3_loop : Scf.Loop 32 :=
  let c0_i32_25 : BitVec 32 := 0#32
  let c8_i32_26 : BitVec 32 := 8#32
  let v78 : BitVec 32 := Scalar.addi c0_i32_25 c8_i32_26
  let c1_i32_27 : BitVec 32 := 1#32
  ⟨c0_i32_25, v78, c1_i32_27⟩
abbrev stage0_0 : Fin 1 → Memref sig .tc .vmem S16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RefRun.lean ====
/-
  The reference's run: its loops issue nothing, so the body is four loads, a fold of the step over six trips and one
  store of the two stacked results; hence the run of @main and the frame, at any interpretation of the floats.
-/
module

public import proofs.«01_k».proof.Proof.Gen.ReferenceIdeal.Skeleton
public import proofs.«01_k».proof.Proof.Gen.ReferenceIdeal.Frame
public import Idealize.ShloMosaic.Lib.Pipeline.Value
public import Idealize.ShloMosaic.Lib.Claim

@[expose] public section

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The loops as folds -/

/-- One fixed-point iteration of the momentum's half-step. -/
def vit (w : Vec F S256x256 .f32) (b : Vec F S256 .f32) (z y : Vec F S16384x256 .f32) : Vec F S16384x256 .f32 :=
  k0_pay15 w y (k0_pay4 w b z) (k0_pay5 w b z) (k0_pay6 w b z) (k0_pay7 w b z) (k0_pay8 w b z)

/-- The momentum after the eight iterations of the half-step. -/
def half (w : Vec F S256x256 .f32) (b : Vec F S256 .f32) (z v : Vec F S16384x256 .f32) : Vec F S16384x256 .f32 :=
  Scf.fold (n := k0_t2_loop.trips) (fun _ y => vit w b z y) v

/-- One fixed-point iteration of the position. -/
def zit (w : Vec F S256x256 .f32) (b : Vec F S256 .f32) (z vh y : Vec F S16384x256 .f32) : Vec F S16384x256 .f32 :=
  k0_pay23 w vh (k0_pay16 w b z) (k0_pay17 w b z vh) (k0_pay19 w b vh) (k0_pay20 w b vh) (k0_pay21 w b vh)
    (k0_pay22 (F := F)) y (k0_pay9 w b y) (k0_pay10 w b vh y) (k0_pay12 w b vh) (k0_pay13 w b vh) (k0_pay14 (F := F))

/-- The position after its eight iterations. -/
def pos (w : Vec F S256x256 .f32) (b : Vec F S256 .f32) (z vh : Vec F S16384x256 .f32) : Vec F S16384x256 .f32 :=
  Scf.fold (n := k0_t3_loop.trips) (fun _ y => zit w b z vh y) z

/-- The momentum's second half-step, at the new position `zn`. -/
def mom (w : Vec F S256x256 .f32) (b : Vec F S256 .f32) (zn vh : Vec F S16384x256 .f32) : Vec F S16384x256 .f32 :=
  k0_pay1 w vh (k0_pay27 (k0_pay25 w b zn) (k0_pay26 w b zn) (Scalar.ofBits .f32 0x7F800000#32))
    (k0_pay29 w b vh zn) (k0_pay30 (k0_pay25 w b zn))

/-- One step of position and momentum. -/
def step (w : Vec F S256x256 .f32) (b : Vec F S256 .f32) (s : Vec F S16384x256 .f32 × Vec F S16384x256 .f32) :
    Vec F S16384x256 .f32 × Vec F S16384x256 .f32 :=
  (pos w b s.1 (half w b s.1 s.2), mom w b (pos w b s.1 (half w b s.1 s.2)) (half w b s.1 s.2))

/-- Position and momentum after the six steps. -/
def steps (w : Vec F S256x256 .f32) (b : Vec F S256 .f32) (s : Vec F S16384x256 .f32 × Vec F S16384x256 .f32) :
    Vec F S16384x256 .f32 × Vec F S16384x256 .f32 :=
  Scf.fold (n := k0_t1_loop.trips) (fun _ s => step w b s) s

/-- What the reference stores: the two results stacked. -/
def result (z v : Vec F S16384x256 .f32) (w : Vec F S256x256 .f32) (b : Vec F S256 .f32) : Vec F S2x16384x256 .f32 :=
  k0_pay2 (steps w b (z, v)).1 (steps w b (z, v)).2

section Loops

variable (arg0 : Memref sig .tc .vmem S16384x256 .f32) (harg0 : arg0.IsWhole) (arg1 : Memref sig .tc .vmem S16384x256 .f32) (harg1 : arg1.IsWhole)
  (arg2 : Memref sig .tc .vmem S256x256 .f32) (harg2 : arg2.IsWhole) (arg3 : Memref sig .tc .vmem S256 .f32) (harg3 : arg3.IsWhole)
  (arg4 : Memref sig .tc .vmem S2x16384x256 .f32) (harg4 : arg4.IsWhole) (w : Vec F S256x256 .f32) (b : Vec F S256 .f32)

/-- A trip of the momentum's loop returns the iterate. -/
theorem t2_ret (i j : BitVec 32) (k1 : Fin k0_t1_loop.trips) (z v : Vec F S16384x256 .f32) (k : Fin k0_t2_loop.trips) (y : Vec F S16384x256 .f32) :
    k0_t2_body arg0 harg0 arg1 harg1 arg2 harg2 arg3 harg3 arg4 harg4 w b i j k1 z v k y = .ret (vit w b z y) := by
  unfold k0_t2_body
  rw [k0_part1_eq_skeleton]
  rfl

/-- The part of the step up to the end of the momentum's loop. -/
theorem part3_ret (i j : BitVec 32) (k1 : Fin k0_t1_loop.trips) (z v : Vec F S16384x256 .f32) :
    k0_part3 arg0 harg0 arg1 harg1 arg2 harg2 arg3 harg3 arg4 harg4 w b i j k1 z v
      = .ret ⟨half w b z v, k0_pay16 w b z, k0_pay17 w b z (half w b z v), k0_pay19 w b (half w b z v), k0_pay20 w b (half w b z v),
          k0_pay21 w b (half w b z v), k0_pay22 (F := F)⟩ := by
  rw [k0_part3_eq_skeleton]
  unfold k0_part3_skel
  exact Scf.for_pure_bind k0_t2_loop.lb k0_t2_loop.ub k0_t2_loop.st k0_t2_ok v _ _
    (fun k acc => t2_ret arg0 harg0 arg1 harg1 arg2 harg2 arg3 harg3 arg4 harg4 w b i j k1 z v k acc) _

/-- A trip of the position's loop returns the iterate. -/
theorem t3_ret (z vh : Vec F S16384x256 .f32) (k : Fin k0_t3_loop.trips) (y : Vec F S16384x256 .f32) :
    k0_t3_body arg0 harg0 arg1 harg1 arg2 harg2 arg3 harg3 arg4 harg4 w b z vh (k0_pay16 w b z) (k0_pay17 w b z vh) (k0_pay19 w b vh)
      (k0_pay20 w b vh) (k0_pay21 w b vh) (k0_pay22 (F := F)) k y = .ret (zit w b z vh y) := by
  unfold k0_t3_body
  rw [k0_part2_eq_skeleton]
  rfl

/-- The part of the step up to the end of the position's loop. -/
theorem part4_ret (z vh : Vec F S16384x256 .f32) :
    k0_part4 arg0 harg0 arg1 harg1 arg2 harg2 arg3 harg3 arg4 harg4 w b z vh (k0_pay16 w b z) (k0_pay17 w b z vh) (k0_pay19 w b vh)
      (k0_pay20 w b vh) (k0_pay21 w b vh) (k0_pay22 (F := F))
      = .ret ⟨pos w b z vh, k0_pay25 w b (pos w b z vh), k0_pay26 w b (pos w b z vh), Scalar.ofBits .f32 0x7F800000#32⟩ := by
  rw [k0_part4_eq_skeleton]
  unfold k0_part4_skel
  exact Scf.for_pure_bind k0_t3_loop.lb k0_t3_loop.ub k0_t3_loop.st k0_t3_ok z _ _
    (fun k acc => t3_ret arg0 harg0 arg1 harg1 arg2 harg2 arg3 harg3 arg4 harg4 w b z vh k acc) _

/-- A trip of the outer loop returns the step. -/
theorem t1_ret (k : Fin k0_t1_loop.trips) (s : Vec F S16384x256 .f32 × Vec F S16384x256 .f32) :
    k0_t1_body arg0 harg0 arg1 harg1 arg2 harg2 arg3 harg3 arg4 harg4 w b k s = .ret (step w b s) := by
  obtain ⟨z, v⟩ := s
  unfold k0_t1_body
  simp only [part3_ret]
  refine (show _ = _ from congrArg (fun p => p >>= _) (part4_ret arg0 harg0 arg1 harg1 arg2 harg2 arg3 harg3 arg4 harg4 w b z (half w b z v))).trans ?_
  rw [k0_part5_eq_skeleton]
  rfl

end Loops

end Cert.ReferenceIdeal.Run

end
-- ==== Proof.RefFrame.lean ====
/-
  The reference's launch: what its one point leaves in the output's array, and the frame.
-/
module

public import proofs.«01_k».proof.Proof.RefRun
public import Idealize.ShloMosaic.Lib.WritesUnit
public import Idealize.ShloMosaic.Lib.Pipeline.ValueKit
public import Idealize.ShloMosaic.Lib.Claim

@[expose] public section

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin of a vector. -/
theorem hz1 : (![0] : Fin 1 → ℕ) = fun _ => 0 := funext fun a => by fin_cases a; rfl
/-- The origin of a matrix. -/
theorem hz2 : (![0, 0] : Fin 2 → ℕ) = fun _ => 0 := funext fun a => by fin_cases a <;> rfl
/-- The origin of a stack of matrices. -/
theorem hz3 : (![0, 0, 0] : Fin 3 → ℕ) = fun _ => 0 := funext fun a => by fin_cases a <;> rfl

/-- The body with its loops gone: four loads, the fold of six steps, and one store. -/
theorem body_eq (arg0 : Memref sig .tc .vmem S16384x256 .f32) (harg0 : arg0.IsWhole) (arg1 : Memref sig .tc .vmem S16384x256 .f32) (harg1 : arg1.IsWhole)
    (arg2 : Memref sig .tc .vmem S256x256 .f32) (harg2 : arg2.IsWhole) (arg3 : Memref sig .tc .vmem S256 .f32) (harg3 : arg3.IsWhole)
    (arg4 : Memref sig .tc .vmem S2x16384x256 .f32) (harg4 : arg4.IsWhole) :
    cc0_body (F := F) arg0 harg0 arg1 harg1 arg2 harg2 arg3 harg3 arg4 harg4 = (do
      let v0 : Vec F S16384x256 .f32 ← Prog.lift (.load arg0 (Rect.unit (s := S16384x256) ![0, 0] S16384x256.size inb_S16384x256_S16384x256_0_0).toLoadRect (View.loadsAt_vmem h_S16384x256))
      let v1 : Vec F S16384x256 .f32 ← Prog.lift (.load arg1 (Rect.unit (s := S16384x256) ![0, 0] S16384x256.size inb_S16384x256_S16384x256_0_0).toLoadRect (View.loadsAt_vmem h_S16384x256))
      let v2 : Vec F S256x256 .f32 ← Prog.lift (.load arg2 (Rect.unit (s := S256x256) ![0, 0] S256x256.size inb_S256x256_S256x256_0_0).toLoadRect (View.loadsAt_vmem h_S256x256))
      let v3 : Vec F S256 .f32 ← Prog.lift (.load arg3 (Rect.unit (s := S256) ![0] S256.size inb_S256_S256_0).toLoadRect (View.loadsAt_vmem h_S256))
      let v9 : Vec F S2x16384x256 .f32 ← Prog.lift (.load arg4 (Rect.unit (s := S2x16384x256) ![0, 0, 0] S2x16384x256.size inb_S2x16384x256_S2x16384x256_0_0_0).toLoadRect (View.loadsAt_vmem h_S2x16384x256))
      Prog.lift (.store arg4 (Rect.unit (s := S2x16384x256) ![0, 0, 0] S2x16384x256.size inb_S2x16384x256_S2x16384x256_0_0_0) (result v0 v1 v2 v3) Finset.univ (View.stores_vmem_bits_univ h_S2x16384x256 rfl) (.inl rfl))
      pure ⟨⟩) := by
  rw [cc0_body_eq_skeleton]
  unfold cc0_body_skel
  have h : ∀ (v0 v1 : Vec F S16384x256 .f32) (v2 : Vec F S256x256 .f32) (v3 : Vec F S256 .f32),
      Scf.Loop.for k0_t1_loop k0_t1_ok (v0, v1) (k0_t1_body (F := F) arg0 harg0 arg1 harg1 arg2 harg2 arg3 harg3 arg4 harg4 v2 v3)
        = .ret (steps v2 v3 (v0, v1)) := fun v0 v1 v2 v3 =>
    Scf.for_pure k0_t1_loop.lb k0_t1_loop.ub k0_t1_loop.st k0_t1_ok (v0, v1) _ _
      (fun k acc => t1_ret arg0 harg0 arg1 harg1 arg2 harg2 arg3 harg3 arg4 harg4 v2 v3 k acc)
  simp only [h]
  rfl

set_option maxHeartbeats 1000000 in
/-- The body's run: the inputs as they were, the output's buffer with one piece written, the stacked results. -/
theorem bodyRun (c : Dev nD) (arg0 : Memref sig .tc .vmem S16384x256 .f32) (harg0 : arg0.IsWhole) (arg1 : Memref sig .tc .vmem S16384x256 .f32) (harg1 : arg1.IsWhole)
    (arg2 : Memref sig .tc .vmem S256x256 .f32) (harg2 : arg2.IsWhole) (arg3 : Memref sig .tc .vmem S256 .f32) (harg3 : arg3.IsWhole)
    (arg4 : Memref sig .tc .vmem S2x16384x256 .f32) (harg4 : arg4.IsWhole)
    (x0 x1 : Vec F S16384x256 .f32) (x2 : Vec F S256x256 .f32) (x3 : Vec F S256 .f32) (E : Set ℕ) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (result x0 x1 x2 x3)) -∗ K ⟨⟩))
      ⊢ wp frame (wpE (defs₀ (F := F)) Variants.none c none) E (cc0_body arg0 harg0 arg1 harg1 arg2 harg2 arg3 harg3 arg4 harg4) K := by
  rw [body_eq]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0; obtain rfl := harg1.eq_unread hf1; obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  simp only [View.readAt_eq_ld, harg0.read_unread, harg1.read_unread, harg2.read_unread, harg3.read_unread,
    View.ld_unit_zero (S := S16384x256) hz2, View.ld_unit_zero (S := S256x256) hz2, View.ld_unit_zero (S := S256) hz1]
  funext y
  exact View.read_writes_cons_unit_of_mem _ _ _ _ _ y y hz3 fun a => (Nat.zero_add _).symm

/-! ## The proof data, the body's obligation, the run -/

/-- The proof data: the arrays as launched; each input's buffer at its block, the output's at the stacked results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result (iblk m c 0 t) (iblk m c 1 t) (iblk m c 2 t) (iblk m c 3 t)
  Φ _ := Pipeline.ΦA spec0 c
  q _ := fullShare
  owed _ := 0

/-- Each array holds at the start what the launch finds in it. -/
theorem A_eq (c : Dev nD) (w : Fin cfg0.W) : (dats m 0 c).A w = V m c (Pipeline.arrRef spec0 w) := by
  dsimp only [dats]

/-- The body leaves the buffer of input 0 as it was. -/
theorem after0_0 (c : Dev nD) (t : Fin cfg0.N) : (dats m 0 c).after 0 t = iblk m c 0 t := by dsimp only [dats]
/-- The body leaves the buffer of input 1 as it was. -/
theorem after0_1 (c : Dev nD) (t : Fin cfg0.N) : (dats m 0 c).after 1 t = iblk m c 1 t := by dsimp only [dats]
/-- The body leaves the buffer of input 2 as it was. -/
theorem after0_2 (c : Dev nD) (t : Fin cfg0.N) : (dats m 0 c).after 2 t = iblk m c 2 t := by dsimp only [dats]
/-- The body leaves the buffer of input 3 as it was. -/
theorem after0_3 (c : Dev nD) (t : Fin cfg0.N) : (dats m 0 c).after 3 t = iblk m c 3 t := by dsimp only [dats]
/-- The body leaves the stored result in the output buffer. -/
theorem after0_4 (c : Dev nD) (t : Fin cfg0.N) : (dats m 0 c).after 4 t
    = result (iblk m c 0 t) (iblk m c 1 t) (iblk m c 2 t) (iblk m c 3 t) := by dsimp only [dats]

/-- The body finds the block of input 0 in its buffer. -/
theorem before0_0 (c : Dev nD) (t : Fin cfg0.N) (d) : (dats m 0 c).before 0 t d = iblk m c 0 t :=
  before0_0_of m (dats m 0 c) (A_eq m c 0) (after0_0 m c) t d
/-- The body finds the block of input 1 in its buffer. -/
theorem before0_1 (c : Dev nD) (t : Fin cfg0.N) (d) : (dats m 0 c).before 1 t d = iblk m c 1 t :=
  before0_1_of m (dats m 0 c) (A_eq m c 1) (after0_1 m c) t d
/-- The body finds the block of input 2 in its buffer. -/
theorem before0_2 (c : Dev nD) (t : Fin cfg0.N) (d) : (dats m 0 c).before 2 t d = iblk m c 2 t :=
  before0_2_of m (dats m 0 c) (A_eq m c 2) (after0_2 m c) t d
/-- The body finds the block of input 3 in its buffer. -/
theorem before0_3 (c : Dev nD) (t : Fin cfg0.N) (d) : (dats m 0 c).before 3 t d = iblk m c 3 t :=
  before0_3_of m (dats m 0 c) (A_eq m c 3) (after0_3 m c) t d

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at the point: the inputs' buffers hold their blocks, so its run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (bodyRun c _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The call at the point is the body at that point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays as the proof data says, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: the arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result array -/

/-- Every window's block index at the one point. -/
theorem idx : ∀ t : Fin cfg0.N, win0_0.index t = ![0, 0] ∧ win0_1.index t = ![0, 0] ∧ win0_2.index t = ![0, 0]
    ∧ win0_3.index t = ![0] ∧ win0_4.index t = ![0, 0, 0] :=
  (by decide +kernel : ∀ t : Fin grid0.N, _)

/-- Each input's block at the one point is the argument itself. -/
theorem iblk0 (c : Dev nD) : iblk m c 0 t0_0 = m ((c : Thread nD τ).loc main_arg0) := by
  blk_ext! [iblk, V, idx t0_0]
/-- The block of the momenta is the argument. -/
theorem iblk1 (c : Dev nD) : iblk m c 1 t0_0 = m ((c : Thread nD τ).loc main_arg1) := by
  blk_ext! [iblk, V, idx t0_0]
/-- The block of the weights is the argument. -/
theorem iblk2 (c : Dev nD) : iblk m c 2 t0_0 = m ((c : Thread nD τ).loc main_arg2) := by
  blk_ext! [iblk, V, idx t0_0]
/-- The block of the bias is the argument. -/
theorem iblk3 (c : Dev nD) : iblk m c 3 t0_0 = m ((c : Thread nD τ).loc main_arg3) := by
  blk_ext! [iblk, V, idx t0_0]

/-- The result array after the launch. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) := by
  refine (dats m 0 c).arrAt_eq_of_after_last 4 t0_0 (by decide +kernel) _ fun j => ?_
  blk_simp
  rw [after0_4, iblk0, iblk1, iblk2, iblk3]

end Cert.ReferenceIdeal.Run

end
-- ==== Proof.Row.lean ====
/-
  The problem's step on one row of real numbers: the softplus `S` and the sigmoid `G`, the pre-activation of a row,
  the fixed-point iterations of the momentum and of the position, the step, and its repetition.
-/
module

public import Idealize.ShloMosaic.PureOps.Ideal

@[expose] public section

noncomputable section

namespace Cert.Row

/-- The softplus of a real number. -/
def S (x : ℝ) : ℝ := Real.log (1 + Real.exp x)
/-- The sigmoid of a real number. -/
def G (x : ℝ) : ℝ := Real.exp x / (1 + Real.exp x)
/-- Half the step length, as the single-precision constant holds it. -/
def cc : ℝ := 10737418 / 2147483648

/-- One plus an exponential is positive. -/
theorem one_add_exp_pos (x : ℝ) : 0 < 1 + Real.exp x := by positivity

/-- The softplus is positive. -/
theorem S_pos (x : ℝ) : 0 < S x := Real.log_pos (by linarith [Real.exp_pos x])

/-- The softplus is not zero. -/
theorem S_ne (x : ℝ) : S x ≠ 0 := (S_pos x).ne'

/-- The softplus, shifted: `x + log (1 + exp (-x))`. -/
theorem add_log (x : ℝ) : x + Real.log (1 + Real.exp (-x)) = S x := by
  have h : Real.exp x * (1 + Real.exp (-x)) = 1 + Real.exp x := by
    rw [mul_add, ← Real.exp_add]; simp; ring
  unfold S
  rw [← h, Real.log_mul (Real.exp_pos x).ne' (one_add_exp_pos _).ne', Real.log_exp]

/-- The softplus in its stable form. -/
theorem max_add_log (x : ℝ) : max x 0 + Real.log (1 + Real.exp (-|x|)) = S x := by
  rcases le_total 0 x with h | h
  · rw [max_eq_left h, abs_of_nonneg h, add_log]
  · rw [max_eq_right h, abs_of_nonpos h, neg_neg, zero_add]; rfl

/-- The sigmoid of a nonnegative number. -/
theorem one_div_exp (x : ℝ) : 1 / (1 + Real.exp (-x)) = G x := by
  have h : Real.exp x * (1 + Real.exp (-x)) = 1 + Real.exp x := by
    rw [mul_add, ← Real.exp_add]; simp; ring
  unfold G
  rw [div_eq_div_iff (one_add_exp_pos _).ne' (one_add_exp_pos _).ne', ← h]; ring

/-- The sigmoid by its two branches. -/
theorem ite_sigmoid (x : ℝ) : (if 0 ≤ x then 1 / (1 + Real.exp (-|x|)) else 1 - 1 / (1 + Real.exp (-|x|))) = G x := by
  split
  · rename_i h; rw [abs_of_nonneg h, one_div_exp]
  · rename_i h
    rw [abs_of_neg (not_le.mp h), neg_neg]
    unfold G
    rw [eq_div_iff (one_add_exp_pos _).ne', sub_mul, one_div_mul_cancel (one_add_exp_pos _).ne']; ring

/-- The sigmoid as the derivative of the softplus through its own value. -/
theorem exp_sub_S (x : ℝ) : Real.exp (x - S x) = G x := by
  unfold S G; rw [Real.exp_sub, Real.exp_log (one_add_exp_pos x)]

/-! ## The step -/

variable (W : Fin 256 → Fin 256 → ℝ) (b : Fin 256 → ℝ)

/-- The pre-activation of a row. -/
def A (z : Fin 256 → ℝ) : Fin 256 → ℝ := fun j => (∑ k, z k * W k j) + b j

/-- One iteration of the momentum's fixed point, at the pre-activation `a`. -/
def vit (a y : Fin 256 → ℝ) : Fin 256 → ℝ := fun j =>
  y j - cc * ∑ k, (1 / 2 * (y k * y k) * G (a k) - 1 / 2 * (G (a k) / S (a k))) * W j k

/-- The momentum after the eight iterations of the first half-step. -/
def half (z v : Fin 256 → ℝ) : Fin 256 → ℝ := (vit W (A W b z))^[8] v

/-- One iteration of the position's fixed point: `a` is the pre-activation of the position at the start of the step,
    `h` the half-step's momentum. -/
def zit (a h y : Fin 256 → ℝ) : Fin 256 → ℝ := fun j =>
  y j + cc * ((S (a j) + S (A W b y j)) * h j - ∑ k, G (A W b h k) / S (A W b h k) * W j k)

/-- The position after a whole step, from the half-step's momentum. -/
def pos (z h : Fin 256 → ℝ) : Fin 256 → ℝ := (zit W b (A W b z) h)^[8] z

/-- A whole step. -/
def step (s : (Fin 256 → ℝ) × (Fin 256 → ℝ)) : (Fin 256 → ℝ) × (Fin 256 → ℝ) :=
  (pos W b s.1 (half W b s.1 s.2), vit W (A W b (pos W b s.1 (half W b s.1 s.2))) (half W b s.1 s.2))

/-- `n` steps. -/
def steps (n : ℕ) (s : (Fin 256 → ℝ) × (Fin 256 → ℝ)) : (Fin 256 → ℝ) × (Fin 256 → ℝ) := (step W b)^[n] s

end Cert.Row

end
-- ==== Proof.Scalar.lean ====
/-
  The float operations of the real interpretation at real arguments, and the constants of the two programs.
-/
module

public import proofs.«01_k».proof.Proof.Row
public import Idealize.ShloMosaic.Lib.IdealHost

@[expose] public section

noncomputable section

namespace Cert.Scal

open Idealize.ShloMosaic

/-- A finite sum of reals is the same sum among the extended reals. -/
theorem coe_sum {n : ℕ} (f : Fin n → ℝ) : (∑ k, ((f k : ℝ) : EReal)) = ((∑ k, f k : ℝ) : EReal) := by
  have h (s : Finset (Fin n)) : (∑ k ∈ s, ((f k : ℝ) : EReal)) = ((∑ k ∈ s, f k : ℝ) : EReal) := by
    induction s using Finset.induction_on with
    | empty => simp
    | insert a s ha ih => rw [Finset.sum_insert ha, Finset.sum_insert ha, ih, EReal.coe_add]
  exact h _

/-- The larger of two reals. -/
theorem coe_max (x y : ℝ) : max (x : EReal) (y : EReal) = ((max x y : ℝ) : EReal) :=
  (EReal.coe_strictMono.monotone.map_max).symm

/-- The absolute value of a real. -/
theorem coe_abs (x : ℝ) : max (x : EReal) (-(x : EReal)) = ((|x| : ℝ) : EReal) := by
  rw [← EReal.coe_neg, coe_max]; rfl

/-- Division by a real that is not zero. -/
theorem coe_div (x : ℝ) {y : ℝ} (h : y ≠ 0) : Ideal.div (x : EReal) (y : EReal) = ((x / y : ℝ) : EReal) := by
  rw [Ideal.div_coe h, ← EReal.coe_mul]; congr 1; ring

/-- `log (1 + x)` for a nonnegative real. -/
theorem coe_log1p {x : ℝ} (h : 0 ≤ x) : Ideal.log1p (x : EReal) = ((Real.log (1 + x) : ℝ) : EReal) := by
  unfold Ideal.log1p
  rw [show (1 : EReal) + (x : EReal) = ((1 + x : ℝ) : EReal) by rw [EReal.coe_add]; rfl, Ideal.log_coe, if_neg (by linarith)]

/-- One is a real. -/
theorem coe_one : (1 : EReal) = ((1 : ℝ) : EReal) := rfl
/-- Zero is a real. -/
theorem coe_zero : (0 : EReal) = ((0 : ℝ) : EReal) := rfl

/-! ## The constants -/

/-- The constant 0. -/
theorem c_zero : Ideal.ofBits .f32 0x00000000#32 = ((0 : ℝ) : EReal) := by
  simp [Ideal.ofBits, Ideal.ieee]
/-- The constant 1/2. -/
theorem c_half : Ideal.ofBits .f32 0x3F000000#32 = ((1 / 2 : ℝ) : EReal) := by
  simp [Ideal.ofBits, Ideal.ieee, -EReal.coe_mul]; norm_num
/-- The constant -1/2. -/
theorem c_neg_half : Ideal.ofBits .f32 0xBF000000#32 = ((-(1 / 2) : ℝ) : EReal) := by
  simp [Ideal.ofBits, Ideal.ieee, -EReal.coe_mul]; norm_num
/-- The constant 0.005, as single precision holds it. -/
theorem c_cc : Ideal.ofBits .f32 0x3BA3D70A#32 = ((Row.cc : ℝ) : EReal) := by
  unfold Row.cc; simp [Ideal.ofBits, Ideal.ieee, -EReal.coe_mul]; norm_num
/-- The constant -0.005, as single precision holds it. -/
theorem c_neg_cc : Ideal.ofBits .f32 0xBBA3D70A#32 = ((-Row.cc : ℝ) : EReal) := by
  unfold Row.cc; simp [Ideal.ofBits, Ideal.ieee, -EReal.coe_mul]; norm_num
/-- The constant -0.0025, as single precision holds it. -/
theorem c_neg_half_cc : Ideal.ofBits .f32 0xBB23D70A#32 = ((-(Row.cc / 2) : ℝ) : EReal) := by
  unfold Row.cc; simp [Ideal.ofBits, Ideal.ieee, -EReal.coe_mul]; norm_num
/-- The constant infinity. -/
theorem c_top : Ideal.ofBits .f32 0x7F800000#32 = ⊤ := by
  simp [Ideal.ofBits, Ideal.ieee]

/-! ## The kernel's and the reference's softplus and sigmoid, at a real argument -/

/-- `log (1 + exp (-|x|))`. -/
theorem log1p_exp_abs (x : ℝ) : Ideal.log1p (Ideal.exp ((0 : EReal) - max (x : EReal) (-(x : EReal))))
    = ((Real.log (1 + Real.exp (-|x|)) : ℝ) : EReal) := by
  rw [coe_abs, coe_zero, ← EReal.coe_sub, Ideal.exp_coe, coe_log1p (Real.exp_pos _).le, zero_sub]

/-- The stable softplus. -/
theorem softplus (x : ℝ) : max (x : EReal) 0 + Ideal.log1p (Ideal.exp ((0 : EReal) - max (x : EReal) (-(x : EReal))))
    = ((Row.S x : ℝ) : EReal) := by
  rw [log1p_exp_abs, coe_zero, coe_max, ← EReal.coe_add, Row.max_add_log]

/-- The short softplus. -/
theorem softplus_short (x : ℝ) : (x : EReal) + Ideal.log1p (Ideal.exp ((0 : EReal) - (x : EReal))) = ((Row.S x : ℝ) : EReal) := by
  rw [coe_zero, ← EReal.coe_sub, Ideal.exp_coe, coe_log1p (Real.exp_pos _).le, zero_sub, ← EReal.coe_add, Row.add_log]

/-- One over one plus `exp (-|x|)`. -/
theorem recip (x : ℝ) : Ideal.div 1 (1 + Ideal.exp ((0 : EReal) - max (x : EReal) (-(x : EReal))))
    = ((1 / (1 + Real.exp (-|x|)) : ℝ) : EReal) := by
  rw [coe_abs, coe_zero, ← EReal.coe_sub, Ideal.exp_coe, zero_sub, coe_one, ← EReal.coe_add,
    coe_div _ (Row.one_add_exp_pos _).ne']

end Cert.Scal

end
-- ==== Proof.RefBlock.lean ====
/-
  The reference's arrays at real values: arrays whose rows hold real numbers are stepped row by row as the problem's rows are.
-/
module

public import proofs.«01_k».proof.Proof.RefRun
public import proofs.«01_k».proof.Proof.Scalar
public import Idealize.ShloMosaic.Lib.Pointwise

@[expose] public section

set_option maxRecDepth 16384

noncomputable section

namespace Cert.ReferenceIdeal.Block

open Idealize.ShloMosaic Idealize.ShloMosaic.TcCoe Idealize.ShloMosaic.Tactic
open Cert.ReferenceIdeal Cert.ReferenceIdeal.Gen Cert.ReferenceIdeal.Run Cert.Scal

/-! ## The reference's lines, named -/

section Lines

variable {F : FTy → Type} [FloatOps F]

/-- The array holding one constant. -/
def bc (x : BitVec 32) : FVec F S16384x256 .f32 := broadcast S16384x256 (Scalar.ofBits .f32 x)
/-- The pre-activation. -/
def aff (w : FVec F S256x256 .f32) (b : FVec F S256 .f32) (z : FVec F S16384x256 .f32) : FVec F S16384x256 .f32 :=
  addf (matmul dot_S16384x256_S256x256_S16384x256_1_0_0_1_n_n none z w (constant S16384x256 .f32 0x00000000#32))
    (broadcastTo S16384x256 (shapeCast S1x256 b shapeCasts_S256_S1x256) broadcasts_S1x256_S16384x256)
/-- The softplus. -/
def sp (a : FVec F S16384x256 .f32) : FVec F S16384x256 .f32 :=
  select (cmpf .one (subf a (bc 0x00000000#32)) (subf a (bc 0x00000000#32))) (addf a (bc 0x00000000#32))
    (addf (maximumf a (bc 0x00000000#32)) (log1p (exp (subf (bc 0x00000000#32) (absf (subf a (bc 0x00000000#32)))))))
/-- The softplus's derivative. -/
def sg (a : FVec F S16384x256 .f32) : FVec F S16384x256 .f32 :=
  exp (subf (select (cmpf .oeq a (bc 0x7F800000#32)) (bc 0x00000000#32) a)
    (select (cmpf .oeq (sp a) (bc 0x7F800000#32)) (bc 0x00000000#32) (sp a)))
/-- The product with the transpose. -/
def mt (w : FVec F S256x256 .f32) (x : FVec F S16384x256 .f32) : FVec F S16384x256 .f32 :=
  matmul dot_S16384x256_S256x256_S16384x256_1_1_0_0_n_n none x w (constant S16384x256 .f32 0x00000000#32)
/-- A column of numbers, on every column of the array. -/
def col (x : FVec F S16384 .f32) : FVec F S16384x256 .f32 :=
  broadcastTo S16384x256 (shapeCast S16384x1 x shapeCasts_S16384_S16384x1) broadcasts_S16384x1_S16384x256
/-- The column holding one constant. -/
def cl (x : BitVec 32) : FVec F S16384 .f32 := broadcast S16384 (Scalar.ofBits .f32 x)

/-- The derivative with respect to the position. -/
def dz (w : FVec F S256x256 .f32) (a y : FVec F S16384x256 .f32) : FVec F S16384x256 .f32 :=
  addf (mt w (mulf (mulf (mulf (col (mulf (cl 0x3F000000#32) (cl 0x3F800000#32))) y) y) (sg a)))
    (mt w (mulf (divf (col (mulf (cl 0xBF000000#32) (cl 0x3F800000#32))) (sp a)) (sg a)))
/-- The derivative with respect to the momentum. -/
def dv (w : FVec F S256x256 .f32) (a a' v : FVec F S16384x256 .f32) : FVec F S16384x256 .f32 :=
  addf (addf (mt w (mulf (divf (col (mulf (cl 0x3F000000#32) (subf (cl 0x00000000#32) (cl 0x3F800000#32)))) (sp a')) (sg a')))
      (mulf (mulf (sp a) v) (col (mulf (cl 0x3F000000#32) (cl 0x3F800000#32)))))
    (mulf (sp a) (mulf (col (mulf (cl 0x3F000000#32) (cl 0x3F800000#32))) v))

/-- The momentum's iteration, in these names. -/
theorem vit_eq (w : Vec F S256x256 .f32) (b : Vec F S256 .f32) (z y : Vec F S16384x256 .f32) :
    vit w b z y = subf y (mulf (bc 0x3BA3D70A#32) (dz w (aff w b z) y)) := rfl
/-- The position's iteration. -/
theorem zit_eq (w : Vec F S256x256 .f32) (b : Vec F S256 .f32) (z vh y : Vec F S16384x256 .f32) :
    zit w b z vh y = addf y (mulf (bc 0x3BA3D70A#32) (addf (dv w (aff w b z) (aff w b vh) vh) (dv w (aff w b y) (aff w b vh) vh))) := rfl
/-- The momentum's second half-step. -/
theorem mom_eq (w : Vec F S256x256 .f32) (b : Vec F S256 .f32) (zn vh : Vec F S16384x256 .f32) :
    mom w b zn vh = subf vh (mulf (bc 0x3BA3D70A#32) (dz w (aff w b zn) vh)) := rfl

end Lines

/-! ## Each line on an array of real rows -/

/-- An array of real rows. -/
def mat (f : Fin 16384 → Fin 256 → ℝ) : S16384x256.Idx → EReal := fun i => ((f (i 0) (i 1) : ℝ) : EReal)
/-- A square of reals. -/
def sq (f : Fin 256 → Fin 256 → ℝ) : S256x256.Idx → EReal := fun i => ((f (i 0) (i 1) : ℝ) : EReal)
/-- A vector of reals. -/
def vec (f : Fin 256 → ℝ) : S256.Idx → EReal := fun i => ((f (i 0) : ℝ) : EReal)

variable (f g h : Fin 16384 → Fin 256 → ℝ) (W : Fin 256 → Fin 256 → ℝ) (b : Fin 256 → ℝ)

/-- The pre-activation. -/
theorem aff_mat : aff (F := Ideal) (sq W) (vec b) (mat f) = mat fun r => Row.A W b (f r) := by
  funext i
  unfold aff mat sq vec
  pointwise
  simp only [← EReal.coe_mul]
  rw [coe_sum, ← EReal.coe_add]
  rfl

/-- The softplus. -/
theorem sp_mat : sp (F := Ideal) (mat f) = mat fun r j => Row.S (f r j) := by
  funext i
  unfold sp bc mat
  pointwise
  rw [if_neg fun h => h rfl]
  exact softplus _

/-- The sigmoid. -/
theorem sg_mat : sg (F := Ideal) (mat f) = mat fun r j => Row.G (f r j) := by
  unfold sg
  rw [sp_mat]
  funext i
  unfold bc mat
  pointwise
  rw [c_top, if_neg (EReal.coe_ne_top _), if_neg (EReal.coe_ne_top _), ← EReal.coe_sub, Ideal.exp_coe, Row.exp_sub_S]

/-- The product with the transpose. -/
theorem mt_mat : mt (F := Ideal) (sq W) (mat f) = mat fun r j => ∑ k, f r k * W j k := by
  funext i
  unfold mt mat sq
  pointwise
  simp only [← EReal.coe_mul]
  exact coe_sum _

/-- The column of one half. -/
theorem col_half : col (F := Ideal) (mulf (cl 0x3F000000#32) (cl 0x3F800000#32)) = mat fun _ _ => 1 / 2 := by
  funext i
  unfold col cl mat
  pointwise
  exact c_half

/-- The column of minus one half. -/
theorem col_neg_half : col (F := Ideal) (mulf (cl 0xBF000000#32) (cl 0x3F800000#32)) = mat fun _ _ => -(1 / 2) := by
  funext i
  unfold col cl mat
  pointwise
  exact c_neg_half

/-- The column of one half of zero minus one. -/
theorem col_half_neg : col (F := Ideal) (mulf (cl 0x3F000000#32) (subf (cl 0x00000000#32) (cl 0x3F800000#32))) = mat fun _ _ => -(1 / 2) := by
  funext i
  unfold col cl mat
  pointwise
  rw [c_half, coe_zero, coe_one, ← EReal.coe_sub, ← EReal.coe_mul]
  congr 1; norm_num

/-- Products, quotients, sums and differences of arrays of real rows. -/
theorem mulf_mat : mulf (F := Ideal) (s := S16384x256) (φ := .f32) (mat f) (mat g) = mat fun r j => f r j * g r j := by
  funext i
  unfold mat
  pointwise
  rw [← EReal.coe_mul]
/-- A sum of two matrices of reals. -/
theorem addf_mat : addf (F := Ideal) (s := S16384x256) (φ := .f32) (mat f) (mat g) = mat fun r j => f r j + g r j := by
  funext i
  unfold mat
  pointwise
  rw [← EReal.coe_add]
/-- A difference of two matrices of reals. -/
theorem subf_mat : subf (F := Ideal) (s := S16384x256) (φ := .f32) (mat f) (mat g) = mat fun r j => f r j - g r j := by
  funext i
  unfold mat
  pointwise
  rw [← EReal.coe_sub]
/-- A quotient of two matrices of reals whose divisor has no zero. -/
theorem divf_mat (hg : ∀ r j, g r j ≠ 0) : divf (F := Ideal) (s := S16384x256) (φ := .f32) (mat f) (mat g) = mat fun r j => f r j / g r j := by
  funext i
  unfold mat
  pointwise
  exact coe_div _ (hg _ _)

/-- The step length. -/
theorem bc_cc : bc (F := Ideal) 0x3BA3D70A#32 = mat fun _ _ => Row.cc := by
  funext i
  unfold bc mat
  pointwise
  exact c_cc

/-- One iteration of the momentum, at the pre-activation `f`. -/
theorem vit_line : subf (mat g) (mulf (bc (F := Ideal) 0x3BA3D70A#32) (dz (sq W) (mat f) (mat g))) = mat fun r => Row.vit W (f r) (g r) := by
  unfold dz
  rw [col_half, col_neg_half, sg_mat, sp_mat, bc_cc, divf_mat _ _ fun _ _ => Row.S_ne _]
  simp only [mulf_mat, mt_mat, addf_mat, subf_mat]
  unfold Row.vit
  congr 1
  funext r j
  rw [← Finset.sum_add_distrib]
  congr 2
  exact Finset.sum_congr rfl fun k _ => by ring

/-- One iteration of the position. -/
theorem zit_line (a a' y' v : Fin 16384 → Fin 256 → ℝ) :
    addf (mat g) (mulf (bc (F := Ideal) 0x3BA3D70A#32) (addf (dv (sq W) (mat a) (mat a') (mat v)) (dv (sq W) (mat y') (mat a') (mat v))))
    = mat fun r j => g r j + Row.cc * ((Row.S (a r j) + Row.S (y' r j)) * v r j - ∑ k, Row.G (a' r k) / Row.S (a' r k) * W j k) := by
  unfold dv
  rw [col_half, col_half_neg, sg_mat, sp_mat, sp_mat, sp_mat, bc_cc, divf_mat _ _ fun _ _ => Row.S_ne _]
  simp only [mulf_mat, mt_mat, addf_mat]
  congr 1
  funext r j
  have e : ∑ k, -(1 / 2) / Row.S (a' r k) * Row.G (a' r k) * W j k = -(1 / 2) * ∑ k, Row.G (a' r k) / Row.S (a' r k) * W j k := by
    rw [Finset.mul_sum]
    exact Finset.sum_congr rfl fun k _ => by ring
  rw [e]
  ring

/-! ## The step and its repetition -/

/-- A fold whose trips all do the same is a repetition. -/
theorem fold_iterate {σ : Type} {n : ℕ} (F : σ → σ) (a : σ) : Scf.fold (n := n) (fun _ y => F y) a = F^[n] a := by
  rw [Scf.fold_eq, List.foldl_const, List.length_finRange]

/-- A repetition on an array of real rows is the repetition on each row. -/
theorem iterate_mat (T : (S16384x256.Idx → EReal) → (S16384x256.Idx → EReal)) (R : Fin 16384 → (Fin 256 → ℝ) → (Fin 256 → ℝ))
    (hT : ∀ y, T (mat y) = mat fun r => R r (y r)) (n : ℕ) (y : Fin 16384 → Fin 256 → ℝ) :
    T^[n] (mat y) = mat fun r => (R r)^[n] (y r) := by
  induction n with
  | zero => rfl
  | succ n ih => rw [Function.iterate_succ_apply', ih, hT]; simp only [Function.iterate_succ_apply']

/-- The outer loop makes six steps. -/
theorem trips1 : k0_t1_loop.trips = 6 := by decide +kernel
/-- The momentum's loop makes eight iterations. -/
theorem trips2 : k0_t2_loop.trips = 8 := by decide +kernel
/-- The position's loop makes eight iterations. -/
theorem trips3 : k0_t3_loop.trips = 8 := by decide +kernel

/-- One iteration of the momentum. -/
theorem vit_mat (y : Fin 16384 → Fin 256 → ℝ) : vit (F := Ideal) (sq W) (vec b) (mat f) (mat y) = mat fun r => Row.vit W (Row.A W b (f r)) (y r) := by
  rw [vit_eq, aff_mat, vit_line]

/-- One iteration of the position. -/
theorem zit_mat (y : Fin 16384 → Fin 256 → ℝ) :
    zit (F := Ideal) (sq W) (vec b) (mat f) (mat g) (mat y) = mat fun r => Row.zit W b (Row.A W b (f r)) (g r) (y r) := by
  rw [zit_eq, aff_mat, aff_mat, aff_mat, zit_line]
  rfl

/-- The momentum after the first half-step. -/
theorem half_mat : half (F := Ideal) (sq W) (vec b) (mat f) (mat g) = mat fun r => Row.half W b (f r) (g r) := by
  unfold half
  refine (fold_iterate _ _).trans ?_
  rw [trips2, iterate_mat _ _ (vit_mat f W b)]
  rfl

/-- The position after a step. -/
theorem pos_mat : pos (F := Ideal) (sq W) (vec b) (mat f) (mat g) = mat fun r => Row.pos W b (f r) (g r) := by
  unfold pos
  refine (fold_iterate _ _).trans ?_
  rw [trips3, iterate_mat _ _ (zit_mat f g W b)]
  rfl

/-- The momentum's second half-step. -/
theorem mom_mat : mom (F := Ideal) (sq W) (vec b) (mat f) (mat g) = mat fun r => Row.vit W (Row.A W b (f r)) (g r) := by
  rw [mom_eq, aff_mat, vit_line]

/-- A step. -/
theorem step_mat : step (F := Ideal) (sq W) (vec b) (mat f, mat g)
    = (mat fun r => (Row.step W b (f r, g r)).1, mat fun r => (Row.step W b (f r, g r)).2) := by
  unfold step
  dsimp only
  rw [half_mat, pos_mat, mom_mat]
  rfl

/-- The steps. -/
theorem iterate_step (n : ℕ) : (step (F := Ideal) (sq W) (vec b))^[n] (mat f, mat g)
    = (mat fun r => (Row.steps W b n (f r, g r)).1, mat fun r => (Row.steps W b n (f r, g r)).2) := by
  induction n with
  | zero => rfl
  | succ n ih =>
    rw [Function.iterate_succ_apply', ih, step_mat]
    unfold Row.steps
    simp only [Function.iterate_succ_apply']

/-- The six steps. -/
theorem steps_mat : steps (F := Ideal) (sq W) (vec b) (mat f, mat g)
    = (mat fun r => (Row.steps W b 6 (f r, g r)).1, mat fun r => (Row.steps W b 6 (f r, g r)).2) := by
  unfold steps
  refine (fold_iterate _ _).trans ?_
  rw [trips1, iterate_step]

end Cert.ReferenceIdeal.Block

end
-- ==== Proof.KernelFold.lean ====
/-
  What the kernel's body writes, named: the two stores of a block hold the position and the momentum after six steps,
  each step as the kernel's lines write it (eight iterations for the momentum, eight for the position, one last
  half-step for the momentum), at any interpretation of the floats.
-/
module

public import proofs.«01_k».proof.Proof.Gen.KernelIdeal.Frame
public import Idealize.ShloMosaic.Lib.Pipeline.Value

@[expose] public section

set_option maxRecDepth 16384

noncomputable section

namespace Cert.KernelIdeal.Fold

open Idealize.ShloMosaic Idealize.ShloMosaic.TcCoe Idealize.ShloMosaic.Tactic
open Cert.KernelIdeal Cert.KernelIdeal.Gen

variable {F : FTy → Type} [FloatOps F]

/-! ## The step, as the kernel writes it -/

/-- The product of a block with a square matrix, from a zero accumulator. -/
def mm (x : FVec F S512x256 .bf16) (w : FVec F S256x256 .bf16) : FVec F S512x256 .f32 :=
  matmul dot_S512x256_S256x256_S512x256_1_0_0_1_n_n none x w (constant S512x256 .f32 0x00000000#32)
/-- The block of zeros. -/
def zero : FVec F S512x256 .bf16 := broadcast S512x256 (Scalar.ofBits .bf16 0x0000#16)
/-- The block of ones. -/
def one : FVec F S512x256 .bf16 := broadcast S512x256 (Scalar.ofBits .bf16 0x3F80#16)
/-- The pre-activation of a block: the block times the matrix, plus the bias on every row. -/
def aff (w : FVec F S256x256 .bf16) (b : FVec F S1x256 .bf16) (z : FVec F S512x256 .f32) : FVec F S512x256 .bf16 :=
  addf (truncf .bf16 (mm (truncf .bf16 z bitsLt_bf16_f32) w) bitsLt_bf16_f32) (broadcastTo S512x256 b broadcasts_S1x256_S512x256)
/-- `exp (-|a|)`. -/
def ex (a : FVec F S512x256 .bf16) : FVec F S512x256 .bf16 := exp (subf zero (absf a))
/-- The softplus in its stable form, `max a 0 + log (1 + exp (-|a|))`. -/
def sp (a : FVec F S512x256 .bf16) : FVec F S512x256 .bf16 := addf (maximumf a zero) (log1p (ex a))
/-- The sigmoid by its two branches. -/
def sg (a : FVec F S512x256 .bf16) : FVec F S512x256 .bf16 :=
  select (cmpf .oge a zero) (divf one (addf one (ex a))) (subf one (divf one (addf one (ex a))))
/-- Sigmoid over softplus. -/
def u (a : FVec F S512x256 .bf16) : FVec F S512x256 .bf16 := mulf (sg a) (divf one (sp a))
/-- The softplus in its short form, `a + log (1 + exp (-a))`. -/
def spl (a : FVec F S512x256 .bf16) : FVec F S512x256 .bf16 := addf a (log1p (exp (subf zero a)))
/-- One fixed-point iteration of the first half-step in the momentum, and the last half-step too. -/
def vit (w3 : FVec F S256x256 .bf16) (a : FVec F S512x256 .bf16) (v : FVec F S512x256 .f32) : FVec F S512x256 .f32 :=
  addf v (mm (subf (mulf (sg a) (mulf (truncf .bf16 v bitsLt_bf16_f32) (truncf .bf16 v bitsLt_bf16_f32))) (u a)) w3)
/-- The momentum times half the step length. -/
def vg (v : FVec F S512x256 .f32) : FVec F S512x256 .bf16 := truncf .bf16 (mulf (broadcast S512x256 (Scalar.ofBits .f32 0x3BA3D70A#32)) v) bitsLt_bf16_f32
/-- The part of the position update which the fixed-point iteration leaves alone. -/
def cst (w5 : FVec F S256x256 .bf16) (a a' : FVec F S512x256 .bf16) (v : FVec F S512x256 .f32) : FVec F S512x256 .f32 :=
  addf (extf .f32 (mulf (vg v) (sp a)) bitsLt_bf16_f32) (mm (u a') w5)
/-- One fixed-point iteration of the position. -/
def zit (w1 : FVec F S256x256 .bf16) (b : FVec F S1x256 .bf16) (c : FVec F S512x256 .f32) (g : FVec F S512x256 .bf16) (z : FVec F S512x256 .f32) : FVec F S512x256 .f32 :=
  addf (addf z c) (extf .f32 (mulf (spl (aff w1 b z)) g) bitsLt_bf16_f32)
/-- The momentum after the eight iterations of the first half-step. -/
def half (w1 w3 : FVec F S256x256 .bf16) (b : FVec F S1x256 .bf16) (z v : FVec F S512x256 .f32) : FVec F S512x256 .f32 :=
  vit w3 (aff w1 b z) (vit w3 (aff w1 b z) (vit w3 (aff w1 b z) (vit w3 (aff w1 b z)
    (vit w3 (aff w1 b z) (vit w3 (aff w1 b z) (vit w3 (aff w1 b z) (vit w3 (aff w1 b z) v)))))))
/-- The constant part of the position update, from the position and momentum at the start of the step. -/
def zc (w1 w3 w5 : FVec F S256x256 .bf16) (b : FVec F S1x256 .bf16) (z v : FVec F S512x256 .f32) : FVec F S512x256 .f32 :=
  cst w5 (aff w1 b z) (aff w1 b (half w1 w3 b z v)) (half w1 w3 b z v)
/-- One iteration of the position within a step. -/
def zi (w1 w3 w5 : FVec F S256x256 .bf16) (b : FVec F S1x256 .bf16) (z v y : FVec F S512x256 .f32) : FVec F S512x256 .f32 :=
  zit w1 b (zc w1 w3 w5 b z v) (vg (half w1 w3 b z v)) y
/-- The position after a whole step: eight iterations. -/
def zn (w1 w3 w5 : FVec F S256x256 .bf16) (b : FVec F S1x256 .bf16) (z v : FVec F S512x256 .f32) : FVec F S512x256 .f32 :=
  zi w1 w3 w5 b z v (zi w1 w3 w5 b z v (zi w1 w3 w5 b z v (zi w1 w3 w5 b z v
   (zi w1 w3 w5 b z v (zi w1 w3 w5 b z v (zi w1 w3 w5 b z v (zi w1 w3 w5 b z v z)))))))
/-- The momentum after a whole step. -/
def vn (w1 w3 w5 : FVec F S256x256 .bf16) (b : FVec F S1x256 .bf16) (z v : FVec F S512x256 .f32) : FVec F S512x256 .f32 :=
  vit w3 (aff w1 b (zn w1 w3 w5 b z v)) (half w1 w3 b z v)

mutual
/-- The position after `n` steps. -/
def zs (w1 w3 w5 : FVec F S256x256 .bf16) (b : FVec F S1x256 .bf16) : ℕ → FVec F S512x256 .f32 → FVec F S512x256 .f32 → FVec F S512x256 .f32
  | 0, z, _ => z
  | n + 1, z, v => zn w1 w3 w5 b (zs w1 w3 w5 b n z v) (vs w1 w3 w5 b n z v)
/-- The momentum after `n` steps. -/
def vs (w1 w3 w5 : FVec F S256x256 .bf16) (b : FVec F S1x256 .bf16) : ℕ → FVec F S512x256 .f32 → FVec F S512x256 .f32 → FVec F S512x256 .f32
  | 0, _, v => v
  | n + 1, z, v => vn w1 w3 w5 b (zs w1 w3 w5 b n z v) (vs w1 w3 w5 b n z v)
end

/-! ## Each line's shape, under its name -/

/-- A product into a zero accumulator. -/
theorem f_mm (x : FVec F S512x256 .bf16) (w : FVec F S256x256 .bf16) :
  matmul dot_S512x256_S256x256_S512x256_1_0_0_1_n_n none x w (constant S512x256 .f32 0x00000000#32) = mm x w := rfl
/-- The block of zeros. -/
theorem f_zero : (broadcast S512x256 (Scalar.ofBits .bf16 0x0000#16) : FVec F S512x256 .bf16) = zero := rfl
/-- The block of ones. -/
theorem f_one : (broadcast S512x256 (Scalar.ofBits .bf16 0x3F80#16) : FVec F S512x256 .bf16) = one := rfl
/-- The pre-activation. -/
theorem f_aff (w : FVec F S256x256 .bf16) (b : FVec F S1x256 .bf16) (z : FVec F S512x256 .f32) :
  addf (truncf .bf16 (mm (truncf .bf16 z bitsLt_bf16_f32) w) bitsLt_bf16_f32) (broadcastTo S512x256 b broadcasts_S1x256_S512x256) = aff w b z := rfl
/-- The exponential of minus the absolute value. -/
theorem f_ex (a : FVec F S512x256 .bf16) : exp (subf zero (absf a)) = ex a := rfl
/-- The stable softplus. -/
theorem f_sp (a : FVec F S512x256 .bf16) : addf (maximumf a zero) (log1p (ex a)) = sp a := rfl
/-- The sigmoid by its two branches. -/
theorem f_sig (a : FVec F S512x256 .bf16) : select (cmpf .oge a zero) (divf one (addf one (ex a))) (subf one (divf one (addf one (ex a)))) = sg a := rfl
/-- The sigmoid over the softplus. -/
theorem f_u (a : FVec F S512x256 .bf16) : mulf (sg a) (divf one (sp a)) = u a := rfl
/-- The short softplus. -/
theorem f_spl (a : FVec F S512x256 .bf16) : addf a (log1p (exp (subf zero a))) = spl a := rfl
/-- One iteration of the momentum's fixed point. -/
theorem f_vit (w3 : FVec F S256x256 .bf16) (a : FVec F S512x256 .bf16) (v : FVec F S512x256 .f32) :
  addf v (mm (subf (mulf (sg a) (mulf (truncf .bf16 v bitsLt_bf16_f32) (truncf .bf16 v bitsLt_bf16_f32))) (u a)) w3) = vit w3 a v := rfl
/-- The scaled momentum of the half-step. -/
theorem f_vg (v : FVec F S512x256 .f32) : truncf .bf16 (mulf (broadcast S512x256 (Scalar.ofBits .f32 0x3BA3D70A#32)) v) bitsLt_bf16_f32 = vg v := rfl
/-- The constant term of the position's fixed point. -/
theorem f_cst (w5 : FVec F S256x256 .bf16) (a a' : FVec F S512x256 .bf16) (v : FVec F S512x256 .f32) :
  addf (extf .f32 (mulf (vg v) (sp a)) bitsLt_bf16_f32) (mm (u a') w5) = cst w5 a a' v := rfl
/-- One iteration of the position's fixed point. -/
theorem f_zit (w1 : FVec F S256x256 .bf16) (b : FVec F S1x256 .bf16) (c : FVec F S512x256 .f32) (g : FVec F S512x256 .bf16) (z : FVec F S512x256 .f32) :
  addf (addf z c) (extf .f32 (mulf (spl (aff w1 b z)) g) bitsLt_bf16_f32) = zit w1 b c g z := rfl
/-- Eight iterations make the half-step. -/
theorem f_half (w1 w3 : FVec F S256x256 .bf16) (b : FVec F S1x256 .bf16) (z v : FVec F S512x256 .f32) :
  vit w3 (aff w1 b z) (vit w3 (aff w1 b z) (vit w3 (aff w1 b z) (vit w3 (aff w1 b z)
    (vit w3 (aff w1 b z) (vit w3 (aff w1 b z) (vit w3 (aff w1 b z) (vit w3 (aff w1 b z) v))))))) = half w1 w3 b z v := rfl
/-- The constant term, from the step's start. -/
theorem f_zc (w1 w3 w5 : FVec F S256x256 .bf16) (b : FVec F S1x256 .bf16) (z v : FVec F S512x256 .f32) :
  cst w5 (aff w1 b z) (aff w1 b (half w1 w3 b z v)) (half w1 w3 b z v) = zc w1 w3 w5 b z v := rfl
/-- One iteration of the position, from the step's start. -/
theorem f_zi (w1 w3 w5 : FVec F S256x256 .bf16) (b : FVec F S1x256 .bf16) (z v y : FVec F S512x256 .f32) :
  zit w1 b (zc w1 w3 w5 b z v) (vg (half w1 w3 b z v)) y = zi w1 w3 w5 b z v y := rfl
/-- Eight iterations make the step's position. -/
theorem f_zn (w1 w3 w5 : FVec F S256x256 .bf16) (b : FVec F S1x256 .bf16) (z v : FVec F S512x256 .f32) :
  zi w1 w3 w5 b z v (zi w1 w3 w5 b z v (zi w1 w3 w5 b z v (zi w1 w3 w5 b z v
   (zi w1 w3 w5 b z v (zi w1 w3 w5 b z v (zi w1 w3 w5 b z v (zi w1 w3 w5 b z v z))))))) = zn w1 w3 w5 b z v := rfl
/-- The step's momentum. -/
theorem f_vn (w1 w3 w5 : FVec F S256x256 .bf16) (b : FVec F S1x256 .bf16) (z v : FVec F S512x256 .f32) :
  vit w3 (aff w1 b (zn w1 w3 w5 b z v)) (half w1 w3 b z v) = vn w1 w3 w5 b z v := rfl

/-! ## The two stores -/

/-- The origin of a matrix. -/
theorem hz2 : (![0, 0] : Fin 2 → ℕ) = fun _ => 0 := funext fun a => by fin_cases a <;> rfl

/-- Reading the weight matrix changes nothing. -/
theorem pay1 (x : Vec F S256x256 .bf16) : k0_pay1 x = x := shapeCast_self _ _
/-- Reading the first scaled transpose changes nothing. -/
theorem pay2 (x : Vec F S256x256 .bf16) : k0_pay2 x = x := shapeCast_self _ _
/-- Reading the second scaled transpose changes nothing. -/
theorem pay3 (x : Vec F S256x256 .bf16) : k0_pay3 x = x := shapeCast_self _ _

set_option maxHeartbeats 4000000 in
/-- What the body's run stores: one whole block in each output, the position and the momentum after six steps. -/
theorem pieces  (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S8x128 .f32) (harg9 : arg9.IsWhole)
    (x0 : Vec F S512x256 .f32) (x1 : Vec F S512x256 .f32) (x2 : Vec F S256x256 .bf16) (x3 : Vec F S256x256 .bf16) (x4 : Vec F S256x256 .bf16) (x5 : Vec F S1x256 .f32) :
    (kernelRun0_A c i arg1 harg1 arg2 harg2 arg3 harg3 arg4 harg4 arg5 harg5 arg6 harg6 arg7 harg7 arg8 harg8 arg9 harg9 x0 x1 x2 x3 x4 x5).1
      = [⟨Rect.unit ![0, 0] S512x256.size inb_S512x256_S512x256_0_0, zs x2 x3 x4 (k0_pay4 x5) 6 x0 x1⟩]
    ∧ (kernelRun0_A c i arg1 harg1 arg2 harg2 arg3 harg3 arg4 harg4 arg5 harg5 arg6 harg6 arg7 harg7 arg8 harg8 arg9 harg9 x0 x1 x2 x3 x4 x5).2.1
      = [⟨Rect.unit ![0, 0] S512x256.size inb_S512x256_S512x256_0_0, vs x2 x3 x4 (k0_pay4 x5) 6 x0 x1⟩] := by
  delta kernelRun0_A
  dsimp only
  simp only [kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10, kernelRun0_A.sl.r_11,
    kernelRun0_A.sl.r_12, kernelRun0_A.sl.r_13, kernelRun0_A.sl.r_14, kernelRun0_A.sl.r_15, kernelRun0_A.sl.r_16,
    kernelRun0_A.sl.r_17, kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25, kernelRun0_A.sl.r_26,
    kernelRun0_A.sl.r_27, kernelRun0_A.sl.r_28, kernelRun0_A.sl.r_29, kernelRun0_A.sl.r_30, kernelRun0_A.sl.r_31,
    kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45, kernelRun0_A.sl.r_46,
    kernelRun0_A.sl.r_47, kernelRun0_A.sl.r_48, kernelRun0_A.sl.r_49, kernelRun0_A.sl.r_50, kernelRun0_A.sl.r_51,
    kernelRun0_A.sl.r_52, kernelRun0_A.sl.r_53, kernelRun0_A.sl.r_54, kernelRun0_A.sl.r_55, kernelRun0_A.sl.r_56,
    kernelRun0_A.sl.r_57, kernelRun0_A.sl.r_58, kernelRun0_A.sl.r_59, kernelRun0_A.sl.r_60, kernelRun0_A.sl.r_61,
    kernelRun0_A.sl.r_62, kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_70, kernelRun0_A.sl.r_71,
    kernelRun0_A.sl.r_72, kernelRun0_A.sl.r_73, kernelRun0_A.sl.r_74, kernelRun0_A.sl.r_75, kernelRun0_A.sl.r_76,
    kernelRun0_A.sl.r_77, kernelRun0_A.sl.r_78, kernelRun0_A.sl.r_79, kernelRun0_A.sl.r_80, kernelRun0_A.sl.r_81,
    kernelRun0_A.sl.r_82, kernelRun0_A.sl.r_83, kernelRun0_A.sl.r_84, kernelRun0_A.sl.r_85, kernelRun0_A.sl.r_86,
    kernelRun0_A.sl.r_87, kernelRun0_A.sl.r_88, kernelRun0_A.sl.r_89, kernelRun0_A.sl.r_90, kernelRun0_A.sl.r_91,
    kernelRun0_A.sl.r_92, kernelRun0_A.sl.r_93, kernelRun0_A.sl.r_94, kernelRun0_A.sl.r_95, kernelRun0_A.sl.r_96,
    kernelRun0_A.sl.r_97, kernelRun0_A.sl.r_98, kernelRun0_A.sl.r_99, kernelRun0_A.sl.r_100, kernelRun0_A.sl.r_101,
    kernelRun0_A.sl.r_102, kernelRun0_A.sl.r_103, kernelRun0_A.sl.r_104, kernelRun0_A.sl.r_105, kernelRun0_A.sl.r_106,
    kernelRun0_A.sl.cst_115, kernelRun0_A.sl.cst_192, kernelRun0_A.sl.cst_203]
  simp only [View.readAt_eq_ld, harg1.read_unread, harg2.read_unread, harg3.read_unread, harg4.read_unread,
    harg5.read_unread, harg6.read_unread, View.ld_unit_zero (S := S512x256) hz2,
    View.ld_unit_zero (S := S256x256) hz2, View.ld_unit_zero (S := S1x256) hz2, pay1, pay2, pay3]
  simp only [k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125,
    pay1, pay2, pay3, f_mm, f_zero, f_one, f_aff, f_ex, f_sp, f_sig, f_u, f_spl, f_vit, f_vg, f_cst, f_zit, f_half, f_zc, f_zi, f_zn, f_vn, zs, vs, and_self]

/-- The first output's block holds the position after six steps. -/
theorem out6  (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S8x128 .f32) (harg9 : arg9.IsWhole)
    (x0 : Vec F S512x256 .f32) (x1 : Vec F S512x256 .f32) (x2 : Vec F S256x256 .bf16) (x3 : Vec F S256x256 .bf16) (x4 : Vec F S256x256 .bf16) (x5 : Vec F S1x256 .f32) :
    out0_A_6 c i arg1 harg1 arg2 harg2 arg3 harg3 arg4 harg4 arg5 harg5 arg6 harg6 arg7 harg7 arg8 harg8 arg9 harg9 x0 x1 x2 x3 x4 x5 = zs x2 x3 x4 (k0_pay4 x5) 6 x0 x1 := by
  unfold out0_A_6
  rw [(pieces c i arg1 harg1 arg2 harg2 arg3 harg3 arg4 harg4 arg5 harg5 arg6 harg6 arg7 harg7 arg8 harg8 arg9 harg9 x0 x1 x2 x3 x4 x5).1]
  exact (View.read_writes_junk_eq_canon _ _).trans (View.canon_unit_zero hz2 _ _)

/-- The second output's block holds the momentum after six steps. -/
theorem out7  (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S8x128 .f32) (harg9 : arg9.IsWhole)
    (x0 : Vec F S512x256 .f32) (x1 : Vec F S512x256 .f32) (x2 : Vec F S256x256 .bf16) (x3 : Vec F S256x256 .bf16) (x4 : Vec F S256x256 .bf16) (x5 : Vec F S1x256 .f32) :
    out0_A_7 c i arg1 harg1 arg2 harg2 arg3 harg3 arg4 harg4 arg5 harg5 arg6 harg6 arg7 harg7 arg8 harg8 arg9 harg9 x0 x1 x2 x3 x4 x5 = vs x2 x3 x4 (k0_pay4 x5) 6 x0 x1 := by
  unfold out0_A_7
  rw [(pieces c i arg1 harg1 arg2 harg2 arg3 harg3 arg4 harg4 arg5 harg5 arg6 harg6 arg7 harg7 arg8 harg8 arg9 harg9 x0 x1 x2 x3 x4 x5).2]
  exact (View.read_writes_junk_eq_canon _ _).trans (View.canon_unit_zero hz2 _ _)

end Cert.KernelIdeal.Fold

end
-- ==== Proof.KernelBlock.lean ====
/-
  The kernel's block at real values: a block whose rows hold real numbers is stepped row by row as the problem's rows are.
-/
module

public import proofs.«01_k».proof.Proof.KernelFold
public import proofs.«01_k».proof.Proof.Scalar
public import Idealize.ShloMosaic.Lib.Pointwise

@[expose] public section

noncomputable section

namespace Cert.KernelIdeal.Block

open Idealize.ShloMosaic Idealize.ShloMosaic.TcCoe Idealize.ShloMosaic.Tactic
open Cert.KernelIdeal Cert.KernelIdeal.Gen Cert.KernelIdeal.Fold Cert.Scal

/-- A block of real rows. -/
def mat (f : Fin 512 → Fin 256 → ℝ) : S512x256.Idx → EReal := fun i => ((f (i 0) (i 1) : ℝ) : EReal)
/-- A square of reals. -/
def sq (f : Fin 256 → Fin 256 → ℝ) : S256x256.Idx → EReal := fun i => ((f (i 0) (i 1) : ℝ) : EReal)
/-- One row of reals. -/
def row (f : Fin 256 → ℝ) : S1x256.Idx → EReal := fun i => ((f (i 1) : ℝ) : EReal)

variable (f g : Fin 512 → Fin 256 → ℝ) (W : Fin 256 → Fin 256 → ℝ) (b : Fin 256 → ℝ)

/-! ## Each named line of the kernel, on a block of real rows -/

/-- The product with a square. -/
theorem mm_mat : mm (F := Ideal) (mat f) (sq W) = mat fun r j => ∑ k, f r k * W k j := by
  funext i
  unfold mm mat sq
  pointwise
  simp only [← EReal.coe_mul]
  exact coe_sum _

/-- The stable softplus. -/
theorem sp_mat : sp (F := Ideal) (mat f) = mat fun r j => Row.S (f r j) := by
  funext i
  unfold sp ex zero mat
  pointwise
  exact softplus _

/-- The short softplus. -/
theorem spl_mat : spl (F := Ideal) (mat f) = mat fun r j => Row.S (f r j) := by
  funext i
  unfold spl zero mat
  pointwise
  exact softplus_short _

/-- The sigmoid. -/
theorem sg_mat : sg (F := Ideal) (mat f) = mat fun r j => Row.G (f r j) := by
  funext i
  unfold sg ex zero one mat
  pointwise
  refine Eq.trans (b := if (0 : EReal) ≤ ((f (i 0) (i 1) : ℝ) : EReal) then
    Ideal.div 1 (1 + Ideal.exp ((0 : EReal) - max ((f (i 0) (i 1) : ℝ) : EReal) (-((f (i 0) (i 1) : ℝ) : EReal))))
    else 1 - Ideal.div 1 (1 + Ideal.exp ((0 : EReal) - max ((f (i 0) (i 1) : ℝ) : EReal) (-((f (i 0) (i 1) : ℝ) : EReal))))) rfl ?_
  rw [recip, coe_one, ← EReal.coe_sub, ← Row.ite_sigmoid]
  by_cases h : 0 ≤ f (i 0) (i 1)
  · rw [if_pos h, if_pos (EReal.coe_nonneg.mpr h)]
  · rw [if_neg h, if_neg fun h' => h (EReal.coe_nonneg.mp h')]

/-- The pre-activation. -/
theorem aff_mat : aff (F := Ideal) (sq W) (row b) (mat f) = mat fun r => Row.A W b (f r) := by
  have h : mm (F := Ideal) (truncf .bf16 (mat f) bitsLt_bf16_f32) (sq W) = mat fun r j => ∑ k, f r k * W k j := mm_mat f W
  funext i
  unfold aff
  rw [h]
  unfold mat row
  pointwise
  rw [← EReal.coe_add]
  rfl

/-- Sigmoid over softplus. -/
theorem u_mat : u (F := Ideal) (mat f) = mat fun r j => Row.G (f r j) / Row.S (f r j) := by
  funext i
  unfold u
  rw [sg_mat, sp_mat]
  unfold one mat
  pointwise
  rw [coe_one, coe_div _ (Row.S_ne _), ← EReal.coe_mul]
  congr 1; ring

/-- Half a step length times the momentum. -/
theorem vg_mat : vg (F := Ideal) (mat f) = mat fun r j => Row.cc * f r j := by
  funext i
  unfold vg mat
  pointwise
  rw [c_cc, ← EReal.coe_mul]

/-- One iteration of the momentum, the matrix holding minus half the step length times the transpose. -/
theorem vit_mat : vit (F := Ideal) (sq fun k j => -(Row.cc / 2) * W j k) (mat f) (mat g) = mat fun r => Row.vit W (f r) (g r) := by
  have h : (subf (mulf (sg (F := Ideal) (mat f)) (mulf (truncf .bf16 (mat g) bitsLt_bf16_f32) (truncf .bf16 (mat g) bitsLt_bf16_f32))) (u (mat f)) : FVec Ideal S512x256 .bf16)
      = mat fun r j => Row.G (f r j) * (g r j * g r j) - Row.G (f r j) / Row.S (f r j) := by
    rw [sg_mat, u_mat]
    funext i
    unfold mat
    pointwise
    rw [← EReal.coe_mul, ← EReal.coe_mul, ← EReal.coe_sub]
  funext i
  unfold vit
  rw [h, mm_mat]
  unfold mat
  pointwise
  rw [← EReal.coe_add]
  congr 1
  unfold Row.vit
  rw [sub_eq_add_neg, Finset.mul_sum, ← Finset.sum_neg_distrib]
  congr 1
  exact Finset.sum_congr rfl fun k _ => by ring

/-- The part of the position's update that its iteration leaves alone. -/
theorem cst_mat (h : Fin 512 → Fin 256 → ℝ) : cst (F := Ideal) (sq fun k j => -Row.cc * W j k) (mat f) (mat g) (mat h)
    = mat fun r j => Row.cc * h r j * Row.S (f r j) - Row.cc * ∑ k, Row.G (g r k) / Row.S (g r k) * W j k := by
  funext i
  unfold cst
  rw [vg_mat, sp_mat, u_mat, mm_mat]
  unfold mat
  pointwise
  rw [← EReal.coe_mul, ← EReal.coe_add]
  congr 1
  rw [sub_eq_add_neg, Finset.mul_sum, ← Finset.sum_neg_distrib]
  congr 1
  exact Finset.sum_congr rfl fun k _ => by ring

/-- One iteration of the position. -/
theorem zit_mat (h y : Fin 512 → Fin 256 → ℝ) :
    zit (F := Ideal) (sq W) (row b)
      (mat fun r j => Row.cc * h r j * Row.S (f r j) - Row.cc * ∑ k, Row.G (Row.A W b (h r) k) / Row.S (Row.A W b (h r) k) * W j k)
      (mat fun r j => Row.cc * h r j) (mat y)
    = mat fun r => Row.zit W b (f r) (h r) (y r) := by
  funext i
  unfold zit
  rw [aff_mat, spl_mat]
  unfold mat
  pointwise
  rw [← EReal.coe_mul, ← EReal.coe_add, ← EReal.coe_add]
  congr 1
  unfold Row.zit
  ring

/-! ## The step and its repetition -/

/-- The momentum after the first half-step. -/
theorem half_mat : half (F := Ideal) (sq W) (sq fun k j => -(Row.cc / 2) * W j k) (row b) (mat f) (mat g)
    = mat fun r => Row.half W b (f r) (g r) := by
  unfold half
  rw [aff_mat]
  simp only [vit_mat]
  rfl

/-- One iteration of the position, within the step. -/
theorem zi_mat (y : Fin 512 → Fin 256 → ℝ) :
    zi (F := Ideal) (sq W) (sq fun k j => -(Row.cc / 2) * W j k) (sq fun k j => -Row.cc * W j k) (row b) (mat f) (mat g) (mat y)
    = mat fun r => Row.zit W b (Row.A W b (f r)) (Row.half W b (f r) (g r)) (y r) := by
  unfold zi zc
  rw [half_mat, aff_mat, aff_mat, vg_mat, cst_mat]
  exact zit_mat (fun r => Row.A W b (f r)) W b (fun r => Row.half W b (f r) (g r)) y

/-- The position after a step. -/
theorem zn_mat :
    zn (F := Ideal) (sq W) (sq fun k j => -(Row.cc / 2) * W j k) (sq fun k j => -Row.cc * W j k) (row b) (mat f) (mat g)
    = mat fun r => Row.pos W b (f r) (Row.half W b (f r) (g r)) := by
  unfold zn
  simp only [zi_mat]
  rfl

/-- The momentum after a step. -/
theorem vn_mat :
    vn (F := Ideal) (sq W) (sq fun k j => -(Row.cc / 2) * W j k) (sq fun k j => -Row.cc * W j k) (row b) (mat f) (mat g)
    = mat fun r => Row.vit W (Row.A W b (Row.pos W b (f r) (Row.half W b (f r) (g r)))) (Row.half W b (f r) (g r)) := by
  unfold vn
  rw [zn_mat, half_mat, aff_mat, vit_mat]

/-- Position and momentum after `n` steps. -/
theorem zvs_mat (n : ℕ) :
    zs (F := Ideal) (sq W) (sq fun k j => -(Row.cc / 2) * W j k) (sq fun k j => -Row.cc * W j k) (row b) n (mat f) (mat g)
      = mat (fun r => (Row.steps W b n (f r, g r)).1)
    ∧ vs (F := Ideal) (sq W) (sq fun k j => -(Row.cc / 2) * W j k) (sq fun k j => -Row.cc * W j k) (row b) n (mat f) (mat g)
      = mat (fun r => (Row.steps W b n (f r, g r)).2) := by
  induction n with
  | zero => exact ⟨by rw [zs]; rfl, by rw [vs]; rfl⟩
  | succ n ih =>
    constructor
    · rw [zs, ih.1, ih.2, zn_mat]
      unfold Row.steps
      simp only [Function.iterate_succ_apply']
      rfl
    · rw [vs, ih.1, ih.2, vn_mat]
      unfold Row.steps
      simp only [Function.iterate_succ_apply']
      rfl

end Cert.KernelIdeal.Block

end
-- ==== Proof.KernelArray.lean ====
/-
  The kernel's arrays: what its blocks read of the arguments and of the host's products, and the two result arrays,
  at real values.
-/
module

public import proofs.«01_k».proof.Proof.KernelBlock
public import Idealize.ShloMosaic.Lib.Pipeline.ValueKit
public import Idealize.ShloMosaic.Lib.Claim

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen Cert.KernelIdeal.Fold Cert.KernelIdeal.Block Cert.Scal

variable (m : (ℓ : Loc nD τ sig) → Buf (Elt Ideal) ℓ)

/-- Every window's block index at a point: the point itself along the rows for the positions and momenta, the one block of the rest. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

/-- The array row under a block's row. -/
def rowOf (t : Fin cfg0.N) (r : Fin 512) : Fin 16384 :=
  ⟨512 * t.val + r.val, by have h : t.val < 32 := t.isLt; have := r.isLt; omega⟩

variable (z v : Fin 16384 → Fin 256 → ℝ) (W : Fin 256 → Fin 256 → ℝ) (b : Fin 256 → ℝ)

/-- The block of positions at a point: its 512 rows of the argument. -/
theorem iblk0 (c : Dev nD) (t : Fin cfg0.N) (hz : m ((c : Thread nD τ).loc main_arg0) = fun i => ((z (i 0) (i 1) : ℝ) : EReal)) :
    iblk m c 0 t = mat fun r => z (rowOf t r) := by
  funext y
  have h : iblk m c 0 t y = m ((c : Thread nD τ).loc main_arg0) (ValueIdx.ix2 (rowOf t (y 0)) (y 1)) := by
    unfold rowOf
    blk_ext! [iblk, V, idx t]
  rw [h, hz]
  rfl

/-! ## What the host computes before the launch -/

/-- The host casts the weight matrix. -/
theorem entry1 (c : Dev nD) : V m c main_call0_v1 = truncf (F := Ideal) .bf16 (m ((c : Thread nD τ).loc main_arg2)) bitsLt_bf16_f32 := by
  show StableHlo.after hostOps0 (fun b => m (c, b)) (Proc.devRef .tc main_call0_v1) = _
  after_results
  rfl

/-- The host transposes the weight matrix, scales it by minus a quarter of the step length and casts it. -/
theorem entry4 (c : Dev nD) : V m c main_call0_v4
    = truncf (F := Ideal) .bf16 (mulf (broadcastInDim S256x256 ![] bcast_S_S256x256 (constant S_ .f32 0xBB23D70A#32))
        (transpose S256x256 [1, 0] (m ((c : Thread nD τ).loc main_arg2)) transposes_S256x256_S256x256_1_0)) bitsLt_bf16_f32 := by
  show StableHlo.after hostOps0 (fun b => m (c, b)) (Proc.devRef .tc main_call0_v4) = _
  after_results
  rfl

/-- The host transposes the weight matrix, scales it by minus half the step length and casts it. -/
theorem entry7 (c : Dev nD) : V m c main_call0_v7
    = truncf (F := Ideal) .bf16 (mulf (broadcastInDim S256x256 ![] bcast_S_S256x256 (constant S_ .f32 0xBBA3D70A#32))
        (transpose S256x256 [1, 0] (m ((c : Thread nD τ).loc main_arg2)) transposes_S256x256_S256x256_1_0)) bitsLt_bf16_f32 := by
  show StableHlo.after hostOps0 (fun b => m (c, b)) (Proc.devRef .tc main_call0_v7) = _
  after_results
  rfl

/-- The host makes the bias one row. -/
theorem entry8 (c : Dev nD) : V m c main_call0_v8 = shapeCast S1x256 (m ((c : Thread nD τ).loc main_arg3)) shapeCasts_S256_S1x256 := by
  show StableHlo.after hostOps0 (fun b => m (c, b)) (Proc.devRef .tc main_call0_v8) = _
  after_results
  rfl

/-! ## The matrices and the bias, as a block reads them -/

/-- The block of the weight matrix is the whole array. -/
theorem whole2 (c : Dev nD) (t : Fin cfg0.N) : iblk m c 2 t = V m c main_call0_v1 := by
  blk_ext! [iblk, idx t]
/-- The block of the first scaled transpose is the whole array. -/
theorem whole3 (c : Dev nD) (t : Fin cfg0.N) : iblk m c 3 t = V m c main_call0_v4 := by
  blk_ext! [iblk, idx t]
/-- The block of the second scaled transpose is the whole array. -/
theorem whole4 (c : Dev nD) (t : Fin cfg0.N) : iblk m c 4 t = V m c main_call0_v7 := by
  blk_ext! [iblk, idx t]
/-- The block of the bias row is the whole array. -/
theorem whole5 (c : Dev nD) (t : Fin cfg0.N) : iblk m c 5 t = V m c main_call0_v8 := by
  blk_ext! [iblk, idx t]

/-- The body reads the weight matrix. -/
theorem iblk2 (c : Dev nD) (t : Fin cfg0.N) (hW : m ((c : Thread nD τ).loc main_arg2) = fun i => ((W (i 0) (i 1) : ℝ) : EReal)) :
    iblk m c 2 t = Block.sq W := by
  rw [whole2, entry1, hW]
  rfl

/-- The body reads the transposed weights times minus half the constant. -/
theorem iblk3 (c : Dev nD) (t : Fin cfg0.N) (hW : m ((c : Thread nD τ).loc main_arg2) = fun i => ((W (i 0) (i 1) : ℝ) : EReal)) :
    iblk m c 3 t = Block.sq fun k j => -(Row.cc / 2) * W j k := by
  rw [whole3, entry4, hW]
  funext y
  unfold Block.sq
  pointwise
  rw [c_neg_half_cc, ← EReal.coe_mul]

/-- The body reads the transposed weights times minus the constant. -/
theorem iblk4 (c : Dev nD) (t : Fin cfg0.N) (hW : m ((c : Thread nD τ).loc main_arg2) = fun i => ((W (i 0) (i 1) : ℝ) : EReal)) :
    iblk m c 4 t = Block.sq fun k j => -Row.cc * W j k := by
  rw [whole4, entry7, hW]
  funext y
  unfold Block.sq
  pointwise
  rw [c_neg_cc, ← EReal.coe_mul]

/-- The body reads the bias as a row. -/
theorem iblk5 (c : Dev nD) (t : Fin cfg0.N) (hb : m ((c : Thread nD τ).loc main_arg3) = fun i => ((b (i 0) : ℝ) : EReal)) :
    k0_pay4 (iblk m c 5 t) = row b := by
  rw [whole5, entry8, hb]
  funext y
  unfold k0_pay4 row
  pointwise

/-- The block of momenta at a point: its 512 rows of the argument. -/
theorem iblk1 (c : Dev nD) (t : Fin cfg0.N) (hv : m ((c : Thread nD τ).loc main_arg1) = fun i => ((v (i 0) (i 1) : ℝ) : EReal)) :
    iblk m c 1 t = mat fun r => v (rowOf t r) := by
  funext y
  have h : iblk m c 1 t y = m ((c : Thread nD τ).loc main_arg1) (ValueIdx.ix2 (rowOf t (y 0)) (y 1)) := by
    unfold rowOf
    blk_ext! [iblk, V, idx t]
  rw [h, hv]
  rfl

/-! ## The two result arrays -/

/-- Where an output block's index lies in its array. -/
theorem emb6 (t : Fin cfg0.N) (y : S512x256.Idx) : (win0_6.blk t).view.emb y = ValueIdx.ix2 (rowOf t (y 0)) (y 1) := by
  unfold rowOf
  blk_ext! [idx t]
/-- Where an index of the momenta's block lies in its array. -/
theorem emb7 (t : Fin cfg0.N) (y : S512x256.Idx) : (win0_7.blk t).view.emb y = ValueIdx.ix2 (rowOf t (y 0)) (y 1) := by
  unfold rowOf
  blk_ext! [idx t]

variable (c : Dev nD) (hz : m ((c : Thread nD τ).loc main_arg0) = fun i => ((z (i 0) (i 1) : ℝ) : EReal))
  (hv : m ((c : Thread nD τ).loc main_arg1) = fun i => ((v (i 0) (i 1) : ℝ) : EReal))
  (hW : m ((c : Thread nD τ).loc main_arg2) = fun i => ((W (i 0) (i 1) : ℝ) : EReal))
  (hb : m ((c : Thread nD τ).loc main_arg3) = fun i => ((b (i 0) : ℝ) : EReal))

include hz hv hW hb

/-- What a point's body leaves in the two output buffers. -/
theorem outs (t : Fin cfg0.N) : outsAt0 m c t
    = (mat fun r => (Row.steps W b 6 (z (rowOf t r), v (rowOf t r))).1, mat fun r => (Row.steps W b 6 (z (rowOf t r), v (rowOf t r))).2) := by
  unfold outsAt0
  rw [out6, out7, iblk0 m z c t hz, iblk1 m v c t hv, iblk2 m W c t hW, iblk3 m W c t hW, iblk4 m W c t hW, iblk5 m b c t hb]
  exact Prod.ext (zvs_mat _ _ W b 6).1 (zvs_mat _ _ W b 6).2

/-- The positions' array after the launch. -/
theorem final6 : (dats m 0 c).arrAt 6 cfg0.N = fun i => (((Row.steps W b 6 (z (i 0), v (i 0))).1 (i 1) : ℝ) : EReal) := by
  refine (dats m 0 c).arrAt_eq_of_covers 6 _ (by decide +kernel) fun t hf y => ?_
  rw [after0_6, outs m z v W b c hz hv hW hb t]
  blk_simp [idx t]
  rw [emb6 t y]
  rfl

/-- The momenta's array after the launch. -/
theorem final7 : (dats m 0 c).arrAt 7 cfg0.N = fun i => (((Row.steps W b 6 (z (i 0), v (i 0))).2 (i 1) : ℝ) : EReal) := by
  refine (dats m 0 c).arrAt_eq_of_covers 7 _ (by decide +kernel) fun t hf y => ?_
  rw [after0_7, outs m z v W b c hz hv hW hb t]
  blk_simp [idx t]
  rw [emb7 t y]
  rfl

end Cert.KernelIdeal.Arrays

end
-- ==== Proof.KernelTail.lean ====
/-
  The kernel's result: the host stacks the two result arrays of the launch.
-/
module

public import proofs.«01_k».proof.Proof.KernelArray

@[expose] public section

set_option maxRecDepth 16384

noncomputable section

namespace Cert.KernelIdeal.Tail

open Idealize.ShloMosaic Idealize.ShloMosaic.TcCoe Idealize.ShloMosaic.Tactic
open Cert.KernelIdeal Cert.KernelIdeal.Gen Cert.KernelIdeal.Arrays

variable (m : (ℓ : Loc nD τ sig) → Buf (Elt Ideal) ℓ)

/-- The two arrays of a launch stacked along a new first axis. -/
def stack (x y : FVec Ideal S16384x256 .f32) : FVec Ideal S2x16384x256 .f32 :=
  concatenate S2x16384x256 0 [⟨S1x16384x256, broadcastInDim S1x16384x256 ![1, 2] bcast_S16384x256_S1x16384x256_1_2 x⟩,
    ⟨S1x16384x256, broadcastInDim S1x16384x256 ![1, 2] bcast_S16384x256_S1x16384x256_1_2 y⟩] concatenates_S1x16384x256_S1x16384x256_S2x16384x256_d0

/-- What the host lines after the launch leave in the result: the two result arrays of the launch, stacked. -/
theorem result (c : Dev nD) : Pipeline.afterTail₀ cfgs (dats m) 0 (V0 m) [hostOps1] c main_v0
    = stack ((dats m 0 c).arrAt 6 cfg0.N) ((dats m 0 c).arrAt 7 cfg0.N) := by
  have inj : Function.Injective (Pipeline.arrRef (cfgs 0).spec) := (by decide +kernel : Function.Injective (Pipeline.arrRef spec0))
  have h6 := Pipeline.withArrays_arr (cfgs 0).spec inj c (V0 m c) (fun w => (dats m 0 c).arrAt w (cfgs 0).N) 6
  have h7 := Pipeline.withArrays_arr (cfgs 0).spec inj c (V0 m c) (fun w => (dats m 0 c).arrAt w (cfgs 0).N) 7
  unfold Pipeline.afterTail₀
  refine Eq.trans ?_ (congrArg₂ stack h6 h7)
  generalize Pipeline.withArrays (cfgs 0).spec c (V0 m c) (fun w => (dats m 0 c).arrAt w (cfgs 0).N) = V
  show StableHlo.after hostOps1 V (Proc.devRef .tc main_v0) = _
  unfold hostOps1
  after_results
  rfl

/-- The stack of two arrays of reals, at an index. -/
theorem stack_apply (p q : Fin 16384 → Fin 256 → ℝ) (i : S2x16384x256.Idx) :
    stack (fun i => ((p (i 0) (i 1) : ℝ) : EReal)) (fun i => ((q (i 0) (i 1) : ℝ) : EReal)) i
      = if (i 0).val < 1 then ((p (i 1) (i 2) : ℝ) : EReal) else ((q (i 1) (i 2) : ℝ) : EReal) := by
  unfold stack
  pointwise
  rfl

end Cert.KernelIdeal.Tail

end
-- ==== Proof.Finite.lean ====
/-
  What the precondition says: every argument's entries are real numbers.
-/
module

public import proofs.«01_k».proof.Defs
public import proofs.«01_k».proof.Proof.Scalar
public import Idealize.ShloMosaic.Lib.Pointwise

@[expose] public section

noncomputable section

namespace Cert.Finite

open Idealize.ShloMosaic Idealize.ShloMosaic.Tactic Cert.Scal

/-- The predicate's shape facts. -/
theorem facts : Cert.Pre_finite.Facts := ⟨by decide, by decide, by decide⟩

/-- A value whose absolute value is below infinity is a real number. -/
theorem real_of_lt {x : EReal} (h : max x (-x) < ⊤) : ((x.toReal : ℝ) : EReal) = x := by
  refine EReal.coe_toReal ?_ ?_
  · rintro rfl; simp at h
  · rintro rfl; simp at h

/-- A mask of comparisons that holds everywhere says that the array is real everywhere. -/
theorem real_of_mask {s : Shape} (hb : (⟨0, ![]⟩ : Shape).BroadcastsInDim s ![]) (x : FVec Ideal s .f32)
    (h : cmpf .olt (Host.absf x) (broadcastInDim s ![] hb (constant ⟨0, ![]⟩ .f32 0x7F800000#32)) = fun _ => 1#1) (i : s.Idx) :
    (((x i : EReal).toReal : ℝ) : EReal) = x i := by
  have e := congrFun h i
  pointwise at e
  rw [c_top] at e
  exact real_of_lt (of_decide_eq_true ((BitVec.ofBool_eq_iff_eq (b' := true)).mp e))

/-- The entries of a matrix, as reals. -/
def rows {n k : ℕ} (x : FVec Ideal (⟨2, ![n, k]⟩ : Shape) .f32) : Fin n → Fin k → ℝ := fun r j => EReal.toReal (x (ValueIdx.ix2 r j))
/-- The entries of a vector, as reals. -/
def entries {n : ℕ} (x : FVec Ideal (⟨1, ![n]⟩ : Shape) .f32) : Fin n → ℝ := fun j => EReal.toReal (x (ValueIdx.ix1 j))

/-- A matrix of real entries is the matrix of those reals. -/
theorem rows_eq {n k : ℕ} (x : FVec Ideal (⟨2, ![n, k]⟩ : Shape) .f32) (h : ∀ i, ((EReal.toReal (x i) : ℝ) : EReal) = x i) :
    x = fun i => ((rows x (i 0) (i 1) : ℝ) : EReal) := by
  funext i
  have e : i = ValueIdx.ix2 (i 0) (i 1) := by funext a; match a with | ⟨0, _⟩ => rfl | ⟨1, _⟩ => rfl
  exact (h i).symm.trans (congrArg (fun j => ((EReal.toReal (x j) : ℝ) : EReal)) e)

/-- A vector of real entries is the vector of those reals. -/
theorem entries_eq {n : ℕ} (x : FVec Ideal (⟨1, ![n]⟩ : Shape) .f32) (h : ∀ i, ((EReal.toReal (x i) : ℝ) : EReal) = x i) :
    x = fun i => ((entries x (i 0) : ℝ) : EReal) := by
  funext i
  have e : i = ValueIdx.ix1 (i 0) := by funext a; match a with | ⟨0, _⟩ => rfl
  exact (h i).symm.trans (congrArg (fun j => ((EReal.toReal (x j) : ℝ) : EReal)) e)

end Cert.Finite

end
-- ==== Proof.lean ====
/-
  The certificate's claim: the frames of the three programs, and the equation of the kernel's results with the
  reference's at real arguments.
-/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.RefBlock
public import proofs.«01_k».proof.Proof.KernelTail
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic

/-- The two results, stacked, at real arguments: the position of a row in the first slab, its momentum in the second. -/
def stacked (z v : Fin 16384 → Fin 256 → ℝ) (W : Fin 256 → Fin 256 → ℝ) (b : Fin 256 → ℝ) :
    (⟨3, ![2, 16384, 256]⟩ : Shape).Idx → EReal := fun i =>
  if (i 0).val < 1 then (((Row.steps W b 6 (z (i 1), v (i 1))).1 (i 2) : ℝ) : EReal)
  else (((Row.steps W b 6 (z (i 1), v (i 1))).2 (i 2) : ℝ) : EReal)

/-- What the reference stores, at real arguments. -/
theorem reference_stacked (z v : Fin 16384 → Fin 256 → ℝ) (W : Fin 256 → Fin 256 → ℝ) (b : Fin 256 → ℝ) :
    Cert.ReferenceIdeal.Run.result (F := Ideal) (fun i => ((z (i 0) (i 1) : ℝ) : EReal)) (fun i => ((v (i 0) (i 1) : ℝ) : EReal))
      (fun i => ((W (i 0) (i 1) : ℝ) : EReal)) (fun i => ((b (i 0) : ℝ) : EReal)) = stacked z v W b := by
  have h := Cert.ReferenceIdeal.Block.steps_mat z v W b
  unfold Cert.ReferenceIdeal.Run.result
  refine (congrArg (fun s => Cert.ReferenceIdeal.Gen.k0_pay2 (F := Ideal) s.1 s.2) h).trans ?_
  funext i
  unfold Cert.ReferenceIdeal.Gen.k0_pay2 Cert.ReferenceIdeal.Block.mat stacked
  pointwise
  rfl

/-- What the kernel's host lines leave, at real arguments. -/
theorem kernel_stacked (m : (ℓ : Loc KernelIdeal.nD KernelIdeal.τ KernelIdeal.sig) → Buf (Elt Ideal) ℓ) (c : Dev KernelIdeal.nD)
    (z v : Fin 16384 → Fin 256 → ℝ) (W : Fin 256 → Fin 256 → ℝ) (b : Fin 256 → ℝ)
    (hz : m ((c.tc : Thread KernelIdeal.nD KernelIdeal.τ).loc KernelIdeal.main_arg0) = fun i => ((z (i 0) (i 1) : ℝ) : EReal))
    (hv : m ((c.tc : Thread KernelIdeal.nD KernelIdeal.τ).loc KernelIdeal.main_arg1) = fun i => ((v (i 0) (i 1) : ℝ) : EReal))
    (hW : m ((c.tc : Thread KernelIdeal.nD KernelIdeal.τ).loc KernelIdeal.main_arg2) = fun i => ((W (i 0) (i 1) : ℝ) : EReal))
    (hb : m ((c.tc : Thread KernelIdeal.nD KernelIdeal.τ).loc KernelIdeal.main_arg3) = fun i => ((b (i 0) : ℝ) : EReal)) :
    Pipeline.afterTail₀ KernelIdeal.cfgs (KernelIdeal.Gen.dats m) 0 (KernelIdeal.Gen.V0 m) [KernelIdeal.Gen.hostOps1] c KernelIdeal.main_v0
      = stacked z v W b := by
  rw [KernelIdeal.Tail.result m c, KernelIdeal.Arrays.final6 m z v W b c hz hv hW hb, KernelIdeal.Arrays.final7 m z v W b c hz hv hW hb]
  funext i
  exact KernelIdeal.Tail.stack_apply (fun r => (Row.steps W b 6 (z r, v r)).1) (fun r => (Row.steps W b 6 (z r, v r)).2) i

/-- At finite arguments both programs run and the kernel's result is the reference's: both hold the six leapfrog steps of
    every row. -/
theorem algebraic : letI := Cert.Finite.facts; Cert.algebraic_KernelIdeal_ReferenceIdeal_pre_finite := by
  pair_intro
  · run_from Cert.KernelIdeal.Gen.run_main m g
    · exact KernelIdeal.Gen.W_main_arg2 m _ c
    · exact KernelIdeal.Gen.W_main_arg3 m _ c
  · run_from Cert.ReferenceIdeal.Run.run_main m' g'
    obtain ⟨p0, p1, p2, p3⟩ := hpre c
    obtain ⟨e0, e1, e2, e3⟩ := hagree c
    have hz := Finite.rows_eq _ (Finite.real_of_mask _ _ p0)
    have hv := Finite.rows_eq _ (Finite.real_of_mask _ _ p1)
    have hW := Finite.rows_eq _ (Finite.real_of_mask _ _ p2)
    have hb := Finite.entries_eq _ (Finite.real_of_mask _ _ p3)
    refine (ReferenceIdeal.Run.final m' c).trans (Eq.trans ?_ (kernel_stacked m c _ _ _ _ hz hv hW hb).symm)
    refine Eq.trans ?_ (reference_stacked _ _ _ _)
    rw [e0.trans hz, e1.trans hv, e2.trans hW, e3.trans hb]

/-- The certificate: every frame, that the idealized kernel is the kernel's own text, and the equation of results. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Run.frame m ρ, fun m ρ _ => Cert.ReferenceIdeal.Run.frame m ρ, trivial, algebraic⟩

end Cert.Proof

end
